-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_clip_KernelIdeal [hPre_within_clip_KernelIdeal : Cert.Pre_within_clip_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_clip_ReferenceIdeal [hPre_within_clip_ReferenceIdeal : Cert.Pre_within_clip_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_clip_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_within_clip_KernelIdeal [hKernelIdeal : Cert.KernelIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_clip_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_within_clip_ReferenceIdeal [hReferenceIdeal : Cert.ReferenceIdeal.Facts] [hPre_within_clip_ReferenceIdeal : Cert.Pre_within_clip_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_clip_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_within_clip_KernelIdeal [hKernelIdeal : Cert.KernelIdeal.Facts] [hReferenceIdeal : Cert.ReferenceIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_clip_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_within_clip_KernelIdeal : Cert.Pre_within_clip_KernelIdeal.Facts) (hPre_within_clip_ReferenceIdeal : Cert.Pre_within_clip_ReferenceIdeal.Facts),
    quiescent_Kernel (hKernel := hKernel)
    ∧ quiescent_KernelIdeal (hKernelIdeal := hKernelIdeal)
    ∧ quiescent_KernelIdeal_pre_within_clip_KernelIdeal (hKernelIdeal := hKernelIdeal) (hPre_within_clip_KernelIdeal := hPre_within_clip_KernelIdeal)
    ∧ quiescent_ReferenceIdeal (hReferenceIdeal := hReferenceIdeal)
    ∧ quiescent_ReferenceIdeal_pre_within_clip_ReferenceIdeal (hReferenceIdeal := hReferenceIdeal) (hPre_within_clip_ReferenceIdeal := hPre_within_clip_ReferenceIdeal)
    ∧ preserves_Kernel_KernelIdeal
    ∧ algebraic_KernelIdeal_ReferenceIdeal_pre_within_clip_KernelIdeal (hKernelIdeal := hKernelIdeal) (hReferenceIdeal := hReferenceIdeal) (hPre_within_clip_KernelIdeal := hPre_within_clip_KernelIdeal)
-- ==== Pre_within_clip_KernelIdeal.lean ====
abbrev S1024x4096 : Shape := ⟨2, ![1024, 4096]⟩
abbrev S4096x8192 : Shape := ⟨2, ![4096, 8192]⟩
abbrev S1024x8192 : Shape := ⟨2, ![1024, 8192]⟩
abbrev S_ : Shape := ⟨0, ![]⟩

class Facts : Prop where
  bcast_S_S1024x8192 : S_.BroadcastsInDim S1024x8192 (![] : Fin 0 → Fin S1024x8192.rank)
  dot_S1024x4096_S4096x8192_S1024x8192_1_0_0_1_n_n_wf : DotDims.WF S1024x4096 S4096x8192 S1024x8192 [1] [0] [0] [1] [] []

variable [Facts]

def dot_S1024x4096_S4096x8192_S1024x8192_1_0_0_1_n_n : DotDims S1024x4096 S4096x8192 S1024x8192 where
  lhsContracting := [1]
  rhsContracting := [0]
  lhsNonContracting := [0]
  rhsNonContracting := [1]
  lhsBatch := []
  rhsBatch := []
  wf := dot_S1024x4096_S4096x8192_S1024x8192_1_0_0_1_n_n_wf
def fn {F : FTy → Type} [FloatOps F] (main_arg0 : FVec F S1024x4096 .f32) (main_arg1 : FVec F S4096x8192 .f32) : IVec S1024x8192 1 :=
  let main_v0 : FVec F S1024x8192 .f32 := (fun l r => Host.dotGeneral dot_S1024x4096_S4096x8192_S1024x8192_1_0_0_1_n_n none l r) main_arg0 main_arg1
  let main_v1 : FVec F S1024x8192 .f32 := Host.absf main_v0
  let main_cst : FVec F S_ .f32 := constant S_ .f32 0x42700000#32
  let main_v2 : FVec F S1024x8192 .f32 := broadcastInDim S1024x8192 ![] bcast_S_S1024x8192 main_cst
  let main_v3 : IVec S1024x8192 1 := cmpf .ole main_v1 main_v2
  main_v3
-- ==== Pre_within_clip_ReferenceIdeal.lean ====
abbrev S4096x4096 : Shape := ⟨2, ![4096, 4096]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .f32) (main_arg1 : FVec F S4096x8192 .f32) : IVec S4096x8192 1 :=
  let main_v0 : FVec F S4096x8192 .f32 := (fun l r => Host.dotGeneral dot_S4096x4096_S4096x8192_S4096x8192_1_0_0_1_n_n none l r) main_arg0 main_arg1
  let main_v1 : FVec F S4096x8192 .f32 := Host.absf main_v0
  let main_cst : FVec F S_ .f32 := constant S_ .f32 0x42700000#32
  let main_v2 : FVec F S4096x8192 .f32 := broadcastInDim S4096x8192 ![] bcast_S_S4096x8192 main_cst
  let main_v3 : IVec S4096x8192 1 := cmpf .ole main_v1 main_v2
  main_v3
-- ==== Kernel.lean ====
abbrev S1024x4096 : Shape := ⟨2, ![1024, 4096]⟩
abbrev S4096x8192 : Shape := ⟨2, ![4096, 8192]⟩
abbrev S4096x2048 : Shape := ⟨2, ![4096, 2048]⟩
abbrev S2x1024x512 : Shape := ⟨3, ![2, 1024, 512]⟩
abbrev S2x512x2048 : Shape := ⟨3, ![2, 512, 2048]⟩
abbrev S512x2048 : Shape := ⟨2, ![512, 2048]⟩
abbrev S1024x2048 : Shape := ⟨2, ![1024, 2048]⟩
abbrev S2x1024x2048 : Shape := ⟨3, ![2, 1024, 2048]⟩
abbrev S3x1024x2048 : Shape := ⟨3, ![3, 1024, 2048]⟩
abbrev S2 : Shape := ⟨1, ![2]⟩
abbrev S3 : Shape := ⟨1, ![3]⟩
abbrev S_ : Shape := ⟨0, ![]⟩
abbrev S1 : Shape := ⟨1, ![1]⟩
abbrev S1x512x2048 : Shape := ⟨3, ![1, 512, 2048]⟩
abbrev S1x1024x512 : Shape := ⟨3, ![1, 1024, 512]⟩
abbrev S1024x512 : Shape := ⟨2, ![1024, 512]⟩
abbrev S1x1024x2048 : Shape := ⟨3, ![1, 1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S1024x4096, .f32⟩
  | .hbm, ⟨1, _⟩ => ⟨S4096x8192, .f32⟩
  | .hbm, ⟨2, _⟩ => ⟨S4096x2048, .f32⟩
  | .local _ .vmem, ⟨0, _⟩ => ⟨S1024x4096, .bf16⟩
  | .local _ .vmem, ⟨1, _⟩ => ⟨S2x1024x512, .f32⟩
  | .local _ .vmem, ⟨2, _⟩ => ⟨S2x512x2048, .f32⟩
  | .local _ .vmem, ⟨3, _⟩ => ⟨S512x2048, .bf16⟩
  | .local _ .vmem, ⟨4, _⟩ => ⟨S1024x2048, .f32⟩
  | .local _ .vmem, ⟨5, _⟩ => ⟨S2x1024x2048, .bf16⟩
  | .local _ .vmem, ⟨6, _⟩ => ⟨S3x1024x2048, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_28 : BitVec 32) : Fin 2 → Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c2048_i32 : BitVec 32 := 2048#32
  let v87 : BitVec 32 := Scalar.muli v53 c2048_i32
  ![0, v87.toNat]
def k0_off2 (d0 : Dev nD) (c1_i32_28 : BitVec 32) : Fin 2 → Nat :=
  let c512_i32_187 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c2048_i32_182 : BitVec 32 := 2048#32
  let v221 : BitVec 32 := Scalar.muli v53 c2048_i32_182
  ![512, v221.toNat]
def k0_off3 (d0 : Dev nD) (c1_i32_28 : BitVec 32) : Fin 2 → Nat :=
  let c1024_i32_209 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c2048_i32_204 : BitVec 32 := 2048#32
  let v244 : BitVec 32 := Scalar.muli v53 c2048_i32_204
  ![1024, v244.toNat]
def k0_off4 (d0 : Dev nD) (c1_i32_28 : BitVec 32) : Fin 2 → Nat :=
  let c1536_i32_234 : BitVec 32 := 1536#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c2048_i32_229 : BitVec 32 := 2048#32
  let v269 : BitVec 32 := Scalar.muli v53 c2048_i32_229
  ![1536, v269.toNat]
def k0_off5 (d0 : Dev nD) (c1_i32_28 : BitVec 32) : Fin 2 → Nat :=
  let c2048_i32_259 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c2048_i32_254 : BitVec 32 := 2048#32
  let v294 : BitVec 32 := Scalar.muli v53 c2048_i32_254
  ![2048, v294.toNat]
def k0_off6 (d0 : Dev nD) (c1_i32_28 : BitVec 32) : Fin 2 → Nat :=
  let c2560_i32_284 : BitVec 32 := 2560#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c2048_i32_279 : BitVec 32 := 2048#32
  let v319 : BitVec 32 := Scalar.muli v53 c2048_i32_279
  ![2560, v319.toNat]
def k0_off7 (d0 : Dev nD) (c1_i32_28 : BitVec 32) : Fin 2 → Nat :=
  let c3072_i32_309 : BitVec 32 := 3072#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c2048_i32_304 : BitVec 32 := 2048#32
  let v344 : BitVec 32 := Scalar.muli v53 c2048_i32_304
  ![3072, v344.toNat]
def k0_off8 (d0 : Dev nD) (c1_i32_28 : BitVec 32) : Fin 2 → Nat :=
  let c3584_i32_334 : BitVec 32 := 3584#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c2048_i32_329 : BitVec 32 := 2048#32
  let v369 : BitVec 32 := Scalar.muli v53 c2048_i32_329
  ![3584, v369.toNat]
def k0_dev4 (d0 : Dev nD) : Nat :=
  let c0_i32_389 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1_i32_388 : BitVec 32 := 1#32
  let v426 : BitVec 32 := Scalar.muli v53 c1_i32_388
  let v427 : BitVec 32 := Scalar.addi c0_i32_389 v426
  v427.toNat
def k0_dev5 (d0 : Dev nD) : Nat :=
  let c0_i32_602 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_35 : BitVec 32 := 3#32
  let v54 : BitVec 32 := Scalar.addi v2 c3_i32_35
  let c4_i32_36 : BitVec 32 := 4#32
  let c0_i32_37 : BitVec 32 := 0#32
  let v55 : BitVec 1 := Scalar.cmpi .eq c4_i32_36 c0_i32_37
  let c1_i32_38 : BitVec 32 := 1#32
  let v56 : BitVec 32 := Scalar.select v55 c1_i32_38 c4_i32_36
  let v57 : BitVec 32 := Scalar.remsi v54 v56
  let c0_i32_40 : BitVec 32 := 0#32
  let v59 : BitVec 1 := Scalar.cmpi .slt v57 c0_i32_40
  let c0_i32_41 : BitVec 32 := 0#32
  let v60 : BitVec 1 := Scalar.cmpi .slt v56 c0_i32_41
  let v61 : BitVec 1 := Scalar.xori v59 v60
  let c0_i32_39 : BitVec 32 := 0#32
  let v58 : BitVec 1 := Scalar.cmpi .ne v57 c0_i32_39
  let v62 : BitVec 1 := Scalar.andi v61 v58
  let v63 : BitVec 32 := Scalar.addi v57 v56
  let v64 : BitVec 32 := Scalar.select v62 v63 v57
  let c1_i32_601 : BitVec 32 := 1#32
  let v641 : BitVec 32 := Scalar.muli v64 c1_i32_601
  let v642 : BitVec 32 := Scalar.addi c0_i32_602 v641
  v642.toNat
def k0_dev6 (d0 : Dev nD) : Nat :=
  let c0_i32_824 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_42 : BitVec 32 := 2#32
  let v65 : BitVec 32 := Scalar.addi v2 c2_i32_42
  let c4_i32_43 : BitVec 32 := 4#32
  let c0_i32_44 : BitVec 32 := 0#32
  let v66 : BitVec 1 := Scalar.cmpi .eq c4_i32_43 c0_i32_44
  let c1_i32_45 : BitVec 32 := 1#32
  let v67 : BitVec 32 := Scalar.select v66 c1_i32_45 c4_i32_43
  let v68 : BitVec 32 := Scalar.remsi v65 v67
  let c0_i32_47 : BitVec 32 := 0#32
  let v70 : BitVec 1 := Scalar.cmpi .slt v68 c0_i32_47
  let c0_i32_48 : BitVec 32 := 0#32
  let v71 : BitVec 1 := Scalar.cmpi .slt v67 c0_i32_48
  let v72 : BitVec 1 := Scalar.xori v70 v71
  let c0_i32_46 : BitVec 32 := 0#32
  let v69 : BitVec 1 := Scalar.cmpi .ne v68 c0_i32_46
  let v73 : BitVec 1 := Scalar.andi v72 v69
  let v74 : BitVec 32 := Scalar.addi v68 v67
  let v75 : BitVec 32 := Scalar.select v73 v74 v68
  let c1_i32_823 : BitVec 32 := 1#32
  let v862 : BitVec 32 := Scalar.muli v75 c1_i32_823
  let v863 : BitVec 32 := Scalar.addi c0_i32_824 v862
  v863.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_1025 : BitVec 32 := 1024#32
  let v1070 : BitVec 32 := Scalar.muli v2 c1024_i32_1025
  let c0_i32_1026 : BitVec 32 := 0#32
  ![v1070.toNat, 0]
def k0_off10 (d0 : Dev nD) (c1_i32_1046 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1085 : BitVec 32 := Scalar.subi v2 c1_i32_1046
  let c4_i32_1047 : BitVec 32 := 4#32
  let c0_i32_1048 : BitVec 32 := 0#32
  let v1086 : BitVec 1 := Scalar.cmpi .eq c4_i32_1047 c0_i32_1048
  let c1_i32_1049 : BitVec 32 := 1#32
  let v1087 : BitVec 32 := Scalar.select v1086 c1_i32_1049 c4_i32_1047
  let v1088 : BitVec 32 := Scalar.remsi v1085 v1087
  let c0_i32_1051 : BitVec 32 := 0#32
  let v1090 : BitVec 1 := Scalar.cmpi .slt v1088 c0_i32_1051
  let c0_i32_1052 : BitVec 32 := 0#32
  let v1091 : BitVec 1 := Scalar.cmpi .slt v1087 c0_i32_1052
  let v1092 : BitVec 1 := Scalar.xori v1090 v1091
  let c0_i32_1050 : BitVec 32 := 0#32
  let v1089 : BitVec 1 := Scalar.cmpi .ne v1088 c0_i32_1050
  let v1093 : BitVec 1 := Scalar.andi v1092 v1089
  let v1094 : BitVec 32 := Scalar.addi v1088 v1087
  let v1095 : BitVec 32 := Scalar.select v1093 v1094 v1088
  let c1024_i32_1068 : BitVec 32 := 1024#32
  let v1110 : BitVec 32 := Scalar.muli v1095 c1024_i32_1068
  let c0_i32_1069 : BitVec 32 := 0#32
  ![v1110.toNat, 0]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Base.lean ====
/-
The kernel's memrefs, semaphores and resource algebra, as the rest of the proof names them.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The talk's copy of the rounds library, its duties numbered. -/
abbrev UB : Type := URounds (GSem nD τ sig) (Fin 4)
/-- The pipeline library's copy, the talk's, and the counters of the local transfers. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

/-! ## The memrefs -/

abbrev aX : Memref sig .tc .hbm S1024x4096 .f32 := Memref.whole main_arg0
abbrev aW : Memref sig .tc .hbm S4096x8192 .f32 := Memref.whole main_arg1
abbrev aO : Memref sig .tc .hbm S4096x2048 .f32 := Memref.whole main_v1
abbrev xB : Memref sig .tc .vmem S1024x4096 .bf16 := Memref.whole cc0_scratch0
abbrev xT : Memref sig .tc .vmem S2x1024x512 .f32 := Memref.whole cc0_scratch1
abbrev wT : Memref sig .tc .vmem S2x512x2048 .f32 := Memref.whole cc0_scratch2
abbrev wB : Memref sig .tc .vmem S512x2048 .bf16 := Memref.whole cc0_scratch3
abbrev st : Memref sig .tc .vmem S1024x2048 .f32 := Memref.whole cc0_scratch4
abbrev sB : Memref sig .tc .vmem S2x1024x2048 .bf16 := Memref.whole cc0_scratch5
abbrev rB : Memref sig .tc .vmem S3x1024x2048 .bf16 := Memref.whole cc0_scratch6

/-- The two landing slots of the x tiles, -/
abbrev xT0 : Memref sig .tc .vmem S1024x512 .f32 := (xT.slice (Rect.unit (s := S2x1024x512) ![0, 0, 0] S1x1024x512.size inb_S2x1024x512_S1x1024x512_0_0_0) (fun _ => rfl)).squeeze S1024x512 squeezes_S1x1024x512_S1024x512
abbrev xT1 : Memref sig .tc .vmem S1024x512 .f32 := (xT.slice (Rect.unit (s := S2x1024x512) ![1, 0, 0] S1x1024x512.size inb_S2x1024x512_S1x1024x512_1_0_0) (fun _ => rfl)).squeeze S1024x512 squeezes_S1x1024x512_S1024x512
/-- of the w tiles, -/
abbrev wT0 : Memref sig .tc .vmem S512x2048 .f32 := (wT.slice (Rect.unit (s := S2x512x2048) ![0, 0, 0] S1x512x2048.size inb_S2x512x2048_S1x512x2048_0_0_0) (fun _ => rfl)).squeeze S512x2048 squeezes_S1x512x2048_S512x2048
abbrev wT1 : Memref sig .tc .vmem S512x2048 .f32 := (wT.slice (Rect.unit (s := S2x512x2048) ![1, 0, 0] S1x512x2048.size inb_S2x512x2048_S1x512x2048_1_0_0) (fun _ => rfl)).squeeze S512x2048 squeezes_S1x512x2048_S512x2048
/-- the two slots blocks are sent from, -/
abbrev sB0 : Memref sig .tc .vmem S1024x2048 .bf16 := (sB.slice (Rect.unit (s := S2x1024x2048) ![0, 0, 0] S1x1024x2048.size inb_S2x1024x2048_S1x1024x2048_0_0_0) (fun _ => rfl)).squeeze S1024x2048 squeezes_S1x1024x2048_S1024x2048
abbrev sB1 : Memref sig .tc .vmem S1024x2048 .bf16 := (sB.slice (Rect.unit (s := S2x1024x2048) ![1, 0, 0] S1x1024x2048.size inb_S2x1024x2048_S1x1024x2048_1_0_0) (fun _ => rfl)).squeeze S1024x2048 squeezes_S1x1024x2048_S1024x2048
/-- and the three slots blocks land in. -/
abbrev rB0 : Memref sig .tc .vmem S1024x2048 .bf16 := (rB.slice (Rect.unit (s := S3x1024x2048) ![0, 0, 0] S1x1024x2048.size inb_S3x1024x2048_S1x1024x2048_0_0_0) (fun _ => rfl)).squeeze S1024x2048 squeezes_S1x1024x2048_S1024x2048
abbrev rB1 : Memref sig .tc .vmem S1024x2048 .bf16 := (rB.slice (Rect.unit (s := S3x1024x2048) ![1, 0, 0] S1x1024x2048.size inb_S3x1024x2048_S1x1024x2048_1_0_0) (fun _ => rfl)).squeeze S1024x2048 squeezes_S1x1024x2048_S1024x2048
abbrev rB2 : Memref sig .tc .vmem S1024x2048 .bf16 := (rB.slice (Rect.unit (s := S3x1024x2048) ![2, 0, 0] S1x1024x2048.size inb_S3x1024x2048_S1x1024x2048_2_0_0) (fun _ => rfl)).squeeze S1024x2048 squeezes_S1x1024x2048_S1024x2048

/-- The contents type of memref `M`'s buffer on device `c`, and its elements held at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-! ## Offsets in closed form -/

theorem off1_eq : ∀ (d : Dev nD) (r : Fin 4), k0_off1 d (BitVec.ofNat 32 r.val) = ![0, 2048 * ((d.val + r.val) % 4)] := by decide +kernel
theorem off2_eq : ∀ (d : Dev nD) (r : Fin 4), k0_off2 d (BitVec.ofNat 32 r.val) = ![512, 2048 * ((d.val + r.val) % 4)] := by decide +kernel
theorem off3_eq : ∀ (d : Dev nD) (r : Fin 4), k0_off3 d (BitVec.ofNat 32 r.val) = ![1024, 2048 * ((d.val + r.val) % 4)] := by decide +kernel
theorem off4_eq : ∀ (d : Dev nD) (r : Fin 4), k0_off4 d (BitVec.ofNat 32 r.val) = ![1536, 2048 * ((d.val + r.val) % 4)] := by decide +kernel
theorem off5_eq : ∀ (d : Dev nD) (r : Fin 4), k0_off5 d (BitVec.ofNat 32 r.val) = ![2048, 2048 * ((d.val + r.val) % 4)] := by decide +kernel
theorem off6_eq : ∀ (d : Dev nD) (r : Fin 4), k0_off6 d (BitVec.ofNat 32 r.val) = ![2560, 2048 * ((d.val + r.val) % 4)] := by decide +kernel
theorem off7_eq : ∀ (d : Dev nD) (r : Fin 4), k0_off7 d (BitVec.ofNat 32 r.val) = ![3072, 2048 * ((d.val + r.val) % 4)] := by decide +kernel
theorem off8_eq : ∀ (d : Dev nD) (r : Fin 4), k0_off8 d (BitVec.ofNat 32 r.val) = ![3584, 2048 * ((d.val + r.val) % 4)] := by decide +kernel
theorem off10_eq : ∀ (d : Dev nD) (r : Fin 3), k0_off10 d (BitVec.ofNat 32 (1 + r.val)) = ![1024 * ((d.val + (3 - r.val)) % 4), 0] := by decide +kernel

end Cert.KernelIdeal.Hand

end
-- ==== Proof.Contents.lean ====
/-
What the kernel computes, as plain functions of a device's block of x and of w.
-/
module

public import proofs.«01_k».proof.Proof.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The values -/

abbrev XC (F : FTy → Type) : Type := (main_arg0 : Ref sig .tc).ty.Contents (Elt F)
abbrev WC (F : FTy → Type) : Type := (main_arg1 : Ref sig .tc).ty.Contents (Elt F)

theorem inbX (k : Fin 8) : ∀ a, (![0, 512 * k.val] : Fin 2 → ℕ) a + S1024x512.size a ≤ S1024x4096.size a := by revert k; decide
theorem inbW (k : Fin 8) (q : Dev nD) : ∀ a, (![512 * k.val, 2048 * q.val] : Fin 2 → ℕ) a + S512x2048.size a ≤ S4096x8192.size a := by revert k q; decide

/-- Column tile `k` of a device's x block, -/
def xTile (X : XC F) (k : Fin 8) : FVec F S1024x512 .f32 :=
  (aX.slice (Rect.unit (s := S1024x4096) ![0, 512 * k.val] S1024x512.size (inbX k)) (fun _ => rfl)).view.read (Elt F) X
/-- the tile of w at row tile `k` and device `q`'s columns, -/
def wTile (Wt : WC F) (q : Dev nD) (k : Fin 8) : FVec F S512x2048 .f32 :=
  (aW.slice (Rect.unit (s := S4096x8192) ![512 * k.val, 2048 * q.val] S512x2048.size (inbW k q)) (fun _ => rfl)).view.read (Elt F) Wt
/-- each rounded to bf16. -/
def xTile16 (X : XC F) (k : Fin 8) : FVec F S1024x512 .bf16 := truncf .bf16 (xTile X k) bitsLt_bf16_f32
def wTile16 (Wt : WC F) (q : Dev nD) (k : Fin 8) : FVec F S512x2048 .bf16 := truncf .bf16 (wTile Wt q k) bitsLt_bf16_f32

/-- The product of the first tiles; the running sum with one more product added. -/
def dotFirst (a : FVec F S1024x512 .bf16) (b : FVec F S512x2048 .bf16) : FVec F S1024x2048 .f32 :=
  matmul dot_S1024x512_S512x2048_S1024x2048_1_0_0_1_n_n none a b (constant S1024x2048 .f32 0x00000000#32)
def dotNext (a : FVec F S1024x512 .bf16) (b : FVec F S512x2048 .bf16) (s : FVec F S1024x2048 .f32) : FVec F S1024x2048 .f32 :=
  addf s (dotFirst a b)

/-- Eight tile products summed in order. -/
def dot8 (a : Fin 8 → FVec F S1024x512 .bf16) (b : Fin 8 → FVec F S512x2048 .bf16) : FVec F S1024x2048 .f32 :=
  dotNext (a 7) (b 7) (dotNext (a 6) (b 6) (dotNext (a 5) (b 5) (dotNext (a 4) (b 4) (dotNext (a 3) (b 3)
    (dotNext (a 2) (b 2) (dotNext (a 1) (b 1) (dotFirst (a 0) (b 0))))))))

/-- The product of the x block with device `q`'s columns of w. -/
def blk (X : XC F) (Wt : WC F) (q : Dev nD) : FVec F S1024x2048 .f32 := dot8 (xTile16 X) (wTile16 Wt q)

/-- `y · sigmoid y`, and it rounded to bf16. -/
def silu (y : FVec F S1024x2048 .f32) : FVec F S1024x2048 .f32 := mulf y (logistic y)
def silu16 (y : FVec F S1024x2048 .f32) : FVec F S1024x2048 .bf16 := truncf .bf16 (silu y) bitsLt_bf16_f32

variable (m : (ℓ : Loc nD τ sig) → Buf (Elt F) ℓ)

def xOf (p : Dev nD) : XC F := m ((p : Thread nD τ).loc main_arg0)
def wOf (p : Dev nD) : WC F := m ((p : Thread nD τ).loc main_arg1)

/-- The block device `p` computes for device `q`, as it is sent; -/
def sent (p q : Dev nD) : FVec F S1024x2048 .bf16 := silu16 (blk (xOf m p) (wOf m p) q)
/-- the rows of device `c`'s result that come from device `s`: its own unrounded, the others' widened back. -/
def rowsFrom (c s : Dev nD) : FVec F S1024x2048 .f32 :=
  if s = c then silu (blk (xOf m c) (wOf m c) c) else extf .f32 (sent m s c) bitsLt_bf16_f32

/-- The device whose rows index `i` of the result lies in, and the index among them. -/
def rowDev (i : S4096x2048.Idx) : Dev nD := ⟨(i 0).val / 1024, by have h : (i 0).val < 4096 := (i 0).isLt; show _ < 4; omega⟩
def rowIdx (i : S4096x2048.Idx) : S1024x2048.Idx := fun a => match a with
  | ⟨0, _⟩ => ⟨(i 0).val % 1024, Nat.mod_lt _ (by decide)⟩
  | ⟨1, _⟩ => ⟨(i 1).val, (i 1).isLt⟩

/-- What device `c`'s result holds after the run. -/
def outAt (c : Dev nD) : (main_v1 : Ref sig .tc).ty.Contents (Elt F) := fun i => rowsFrom m c (rowDev i) (rowIdx i)

end Cert.KernelIdeal.Hand

end
-- ==== Proof.Value.lean ====
/-
What the result is over the extended reals: at every index the gated entry of the product.
-/
module

public import proofs.«01_k».proof.Proof.Contents
public import Idealize.ShloMosaic.Lib.Pointwise.Tactic
public import Idealize.ShloMosaic.Lib.Pointwise.Contract
public import Idealize.ShloMosaic.PureOps.Ideal.Laws

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- An entry of a device's block of x, and of w. -/
abbrev xEnt (X : XC Ideal) (r : Fin 1024) (k : Fin 4096) : EReal := (show S1024x4096.Idx → EReal from X) (ix2 r k)
abbrev wEnt (W : WC Ideal) (k : Fin 4096) (l : Fin 8192) : EReal := (show S4096x8192.Idx → EReal from W) (ix2 k l)

/-! ## A block of the product, at an index -/

/-- The one product of tiles at an index: the sum over the 512 shared positions. -/
theorem dotFirst_apply (a : FVec Ideal S1024x512 .bf16) (b : FVec Ideal S512x2048 .bf16) (r : Fin 1024) (l : Fin 2048) :
    dotFirst a b (ix2 r l) = ∑ k : Fin 512, a (ix2 r k) * b (ix2 k l) := by
  unfold dotFirst
  pointwise

theorem col_lt (k : Fin 8) (j : Fin 512) : 512 * k.val + j.val < 4096 := by omega
theorem wcol_lt (q : Dev nD) (l : Fin 2048) : 2048 * q.val + l.val < 8192 := by
  have h : q.val < 4 := q.isLt
  omega

/-- A tile of x reads x at its own columns, -/
theorem xTile16_apply (X : XC Ideal) (k : Fin 8) (r : Fin 1024) (j : Fin 512) :
    xTile16 X k (ix2 r j) = xEnt X r ⟨512 * k.val + j.val, col_lt k j⟩ := by
  unfold xTile16 xTile
  show (show S1024x4096.Idx → EReal from X) _ = (show S1024x4096.Idx → EReal from X) _
  congr 1
  funext a
  apply Fin.ext
  match a with
  | ⟨0, _⟩ => show 0 + 1 * r.val = r.val; omega
  | ⟨1, _⟩ => show 512 * k.val + 1 * j.val = 512 * k.val + j.val; omega

/-- a tile of w reads w at its own rows and its device's columns. -/
theorem wTile16_apply (W : WC Ideal) (q : Dev nD) (k : Fin 8) (j : Fin 512) (l : Fin 2048) :
    wTile16 W q k (ix2 j l) = wEnt W ⟨512 * k.val + j.val, col_lt k j⟩ ⟨2048 * q.val + l.val, wcol_lt q l⟩ := by
  unfold wTile16 wTile
  show (show S4096x8192.Idx → EReal from W) _ = (show S4096x8192.Idx → EReal from W) _
  congr 1
  funext a
  apply Fin.ext
  match a with
  | ⟨0, _⟩ => show 512 * k.val + 1 * j.val = 512 * k.val + j.val; omega
  | ⟨1, _⟩ => show 2048 * q.val + 1 * l.val = 2048 * q.val + l.val; omega

/-- A sum over 4096 positions is the sum of its eight runs of 512. -/
theorem sum_tiles (f : Fin 4096 → EReal) :
    ∑ k : Fin 4096, f k = ∑ k : Fin 8, ∑ j : Fin 512, f ⟨512 * k.val + j.val, col_lt k j⟩ := by
  rw [← Fintype.sum_prod_type' (f := fun (k : Fin 8) (j : Fin 512) => f ⟨512 * k.val + j.val, col_lt k j⟩)]
  refine (Fintype.sum_equiv (finProdFinEquiv (m := 8) (n := 512)) _ _ fun p => ?_).symm
  congr 1
  apply Fin.ext
  show 512 * p.1.val + p.2.val = p.2.val + 512 * p.1.val
  omega

/-- The eight tile products added up are the product of the whole rows with the whole columns. -/
theorem blk_apply (X : XC Ideal) (W : WC Ideal) (q : Dev nD) (r : Fin 1024) (l : Fin 2048) :
    blk X W q (ix2 r l) = ∑ k : Fin 4096, xEnt X r k
      * wEnt W k ⟨2048 * q.val + l.val, wcol_lt q l⟩ := by
  have e : ∀ k : Fin 8, dotFirst (xTile16 X k) (wTile16 W q k) (ix2 r l)
      = ∑ j : Fin 512, xEnt X r ⟨512 * k.val + j.val, col_lt k j⟩
        * wEnt W ⟨512 * k.val + j.val, col_lt k j⟩ ⟨2048 * q.val + l.val, wcol_lt q l⟩ := fun k => by
    rw [dotFirst_apply]
    exact Finset.sum_congr rfl fun j _ => by rw [xTile16_apply, wTile16_apply]
  rw [sum_tiles, Fin.sum_univ_eight]
  rw [← e 0, ← e 1, ← e 2, ← e 3, ← e 4, ← e 5, ← e 6, ← e 7]
  rfl

/-! ## The gate -/

theorem ofBits_sixty : Ideal.ofBits .f32 0x42700000#32 = ((60 : ℝ) : EReal) := by
  simp [Ideal.ofBits, Ideal.ieee, -EReal.coe_mul]; norm_num
theorem ofBits_neg_sixty : Ideal.ofBits .f32 0xC2700000#32 = ((-60 : ℝ) : EReal) := by
  simp [Ideal.ofBits, Ideal.ieee, -EReal.coe_mul]; norm_num

/-- What the reference makes of an entry of the product. -/
def gate (y : EReal) : EReal := Ideal.div y (1 + Ideal.exp (-(min ((60 : ℝ) : EReal) (max ((-60 : ℝ) : EReal) y))))

/-- Where the clip leaves `y` as it is, `y · sigmoid y` is that quotient. -/
theorem gate_eq (y : EReal) (h : max y (-y) ≤ ((60 : ℝ) : EReal)) : y * Ideal.logistic y = gate y := by
  have h1 : y ≤ ((60 : ℝ) : EReal) := (le_max_left _ _).trans h
  have h2 : ((-60 : ℝ) : EReal) ≤ y := by
    have := EReal.neg_le_neg_iff.mpr ((le_max_right _ _).trans h)
    rwa [neg_neg, ← EReal.coe_neg] at this
  unfold gate
  rw [max_eq_right h2, min_eq_right h1]
  induction y with
  | bot => exact absurd h2 (not_le.mpr (EReal.bot_lt_coe _))
  | top => exact absurd h1 (not_le.mpr (EReal.coe_lt_top _))
  | coe y =>
    have e : (1 : EReal) + Ideal.exp (-(y : EReal)) = ((1 + Real.exp (-y) : ℝ) : EReal) := by
      rw [← EReal.coe_neg, Ideal.exp_coe, ← EReal.coe_one, ← EReal.coe_add]
    have hne : ((1 + Real.exp (-y) : ℝ) : EReal) ≠ 0 := by
      have : (0 : ℝ) < 1 + Real.exp (-y) := by positivity
      exact_mod_cast this.ne'
    rw [e, Ideal.div, if_neg hne, Ideal.logistic_coe, EReal.coe_inv]

/-! ## The result -/

variable (m : (ℓ : Loc nD τ sig) → Buf (Elt Ideal) ℓ)

/-- Over the reals the rounding of the sent blocks is nothing: whichever device rows come from, they are the gated product. -/
theorem rowsFrom_apply (hW : ∀ s c, wOf m s = wOf m c) (c s : Dev nD) (r : Fin 1024) (l : Fin 2048) :
    rowsFrom m c s (ix2 r l) = blk (xOf m s) (wOf m c) c (ix2 r l) * Ideal.logistic (blk (xOf m s) (wOf m c) c (ix2 r l)) := by
  unfold rowsFrom
  split
  · next h => subst h; rfl
  · rw [← hW s c]; rfl

end Cert.KernelIdeal.Hand

end
-- ==== Proof.Protocol.lean ====
/-
The conversation of the four devices: who signals and sends to whom, what each signal and each transfer hands over.
-/
module

public import proofs.«01_k».proof.Proof.Contents

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Devices, semaphores, cells -/

/-- The device `o` places after `c`. -/
def hop (c : Dev nD) (o : ℕ) : Dev nD := ⟨(c.val + o) % 4, Nat.mod_lt _ (by decide)⟩

set_option backward.proofsInPublic true in
theorem dev1_eq : ∀ c : Dev nD, (⟨k0_dev1 c, k0_dev1_lt c⟩ : Dev nD) = hop c 1 := by decide +kernel
set_option backward.proofsInPublic true in
theorem dev2_eq : ∀ c : Dev nD, (⟨k0_dev2 c, k0_dev2_lt c⟩ : Dev nD) = hop c 2 := by decide +kernel
set_option backward.proofsInPublic true in
theorem dev3_eq : ∀ c : Dev nD, (⟨k0_dev3 c, k0_dev3_lt c⟩ : Dev nD) = hop c 3 := by decide +kernel
set_option backward.proofsInPublic true in
theorem dev4_eq : ∀ c : Dev nD, (⟨k0_dev4 c, k0_dev4_lt c⟩ : Dev nD) = hop c 1 := by decide +kernel
set_option backward.proofsInPublic true in
theorem dev5_eq : ∀ c : Dev nD, (⟨k0_dev5 c, k0_dev5_lt c⟩ : Dev nD) = hop c 3 := by decide +kernel
set_option backward.proofsInPublic true in
theorem dev6_eq : ∀ c : Dev nD, (⟨k0_dev6 c, k0_dev6_lt c⟩ : Dev nD) = hop c 2 := by decide +kernel

abbrev barS : Sem sig := (SemArray.scalar (sig.barrier 0 rfl) : Sems sig S_).sem
abbrev sendS0 : DmaSems sig S_ := (cc0_scratch9.slice (Rect.unit (s := S2) ![0] S1.size inb_S2_S1_0)).squeeze S_ squeezes_S1_S_
abbrev sendS1 : DmaSems sig S_ := (cc0_scratch9.slice (Rect.unit (s := S2) ![1] S1.size inb_S2_S1_1)).squeeze S_ squeezes_S1_S_
abbrev recvS0 : DmaSems sig S_ := (cc0_scratch10.slice (Rect.unit (s := S3) ![0] S1.size inb_S3_S1_0)).squeeze S_ squeezes_S1_S_
abbrev recvS1 : DmaSems sig S_ := (cc0_scratch10.slice (Rect.unit (s := S3) ![1] S1.size inb_S3_S1_1)).squeeze S_ squeezes_S1_S_
abbrev recvS2 : DmaSems sig S_ := (cc0_scratch10.slice (Rect.unit (s := S3) ![2] S1.size inb_S3_S1_2)).squeeze S_ squeezes_S1_S_

/-- The conversation's six semaphores of one device: barrier, the two send, the three receive. -/
abbrev csem : Fin 6 → SemLoc sig := fun | 0 => .reg barS | 1 => .dma sendS0.sem | 2 => .dma sendS1.sem | 3 => .dma recvS0.sem | 4 => .dma recvS1.sem | 5 => .dma recvS2.sem
abbrev kcell (ck : Dev nD × Fin 6) : GSem nD τ sig := ((ck.1 : Thread nD τ), csem ck.2)
abbrev barCell (c : Dev nD) : GSem nD τ sig := ((c : Thread nD τ), .reg barS)
abbrev sendCell0 (c : Dev nD) : GSem nD τ sig := ((c : Thread nD τ), .dma sendS0.sem)
abbrev sendCell1 (c : Dev nD) : GSem nD τ sig := ((c : Thread nD τ), .dma sendS1.sem)
abbrev recvCell0 (c : Dev nD) : GSem nD τ sig := ((c : Thread nD τ), .dma recvS0.sem)
abbrev recvCell1 (c : Dev nD) : GSem nD τ sig := ((c : Thread nD τ), .dma recvS1.sem)
abbrev recvCell2 (c : Dev nD) : GSem nD τ sig := ((c : Thread nD τ), .dma recvS2.sem)

/-- Which of the six a semaphore is; `6` for the others. -/
def kindOf (s : SemLoc sig) : Fin 7 := match s with
  | .reg _ => 0
  | .dma q => match q.val with | 4 => 1 | 5 => 2 | 6 => 3 | 7 => 4 | 8 => 5 | _ => 6

/-- The credit of one block. -/
abbrev N : ℕ := 131072

/-! ## The schedule -/

variable (m : (ℓ : Loc nD τ sig) → Buf (Elt F) ℓ)

/-- Duty `d` of `c`'s barrier cell hands `c` the slot it will write of the device that signals: `d` places before `c`. -/
def barPay (c : Dev nD) (d : Fin 4) : sProp 𝕄 := match d with
  | 0 => iprop(emp)
  | 1 => iprop(∃ f, pt (F := F) (hop c 3) rB2 f)
  | 2 => iprop(∃ f, pt (F := F) (hop c 2) rB1 f)
  | 3 => iprop(∃ f, pt (F := F) (hop c 1) rB0 f)
/-- A receive cell hands `c` the slot, holding what its sender computed for it. -/
def recvPay0 (c : Dev nD) : sProp 𝕄 := iprop(∃ f, ⌜rB0.view.read (Elt F) f = sent m (hop c 3) c⌝ ∗ pt (F := F) c rB0 f)
def recvPay1 (c : Dev nD) : sProp 𝕄 := iprop(∃ f, ⌜rB1.view.read (Elt F) f = sent m (hop c 2) c⌝ ∗ pt (F := F) c rB1 f)
def recvPay2 (c : Dev nD) : sProp 𝕄 := iprop(∃ f, ⌜rB2.view.read (Elt F) f = sent m (hop c 1) c⌝ ∗ pt (F := F) c rB2 f)
/-- A send cell hands `c` the slot it sent from. -/
def sendPay0 (c : Dev nD) : sProp 𝕄 := iprop(∃ f, pt (F := F) c sB0 f)
def sendPay1 (c : Dev nD) : sProp 𝕄 := iprop(∃ f, pt (F := F) c sB1 f)

def payK (k : Fin 7) (c : Dev nD) (d : Fin 4) : sProp 𝕄 := match k with
  | 0 => barPay c d | 1 => sendPay0 c | 2 => sendPay1 c | 3 => recvPay0 m c | 4 => recvPay1 m c | 5 => recvPay2 m c | 6 => iprop(emp)

def dutK (k : Fin 7) (r : ℕ) : Finset (Fin 4) := match k, r with
  | 0, 0 => {1, 2, 3} | 1, 0 => {0} | 1, 1 => {0} | 2, 0 => {0} | 3, 0 => {0} | 4, 0 => {0} | 5, 0 => {0} | _, _ => ∅

/-- The barrier cell has one round of three one-unit duties; a receive cell and the second send cell one round of one
    block's credit; the first send cell, used twice, two. -/
def talk : Rounds.Schedule (GSem nD τ sig) (Fin 4) 𝕄 where
  duties g r := dutK (kindOf g.2) r
  unitless _ := False
  amount g _ _ := if kindOf g.2 = 0 then 1 else N
  payload g _ d := payK m (kindOf g.2) g.1.1 d
  amount_pos g _ _ _ := by split <;> decide

instance talk_payload_storable (g : GSem nD τ sig) (r : ℕ) (d : Fin 4) : BI.Storable (upEmb : UEmb _ 𝕄) ((talk m).payload g r d) := by
  show BI.Storable upEmb (payK m (kindOf g.2) g.1.1 d)
  unfold payK barPay recvPay0 recvPay1 recvPay2 sendPay0 sendPay1
  (repeat' split) <;> infer_instance

section Tables
variable (c : Dev nD)

theorem duties_bar : (talk m).duties (barCell c) 0 = {1, 2, 3} := rfl
theorem duties_send0 : (talk m).duties (sendCell0 c) 0 = {0} := rfl
theorem duties_send0' : (talk m).duties (sendCell0 c) 1 = {0} := rfl
theorem duties_send1 : (talk m).duties (sendCell1 c) 0 = {0} := rfl
theorem duties_recv0 : (talk m).duties (recvCell0 c) 0 = {0} := rfl
theorem duties_recv1 : (talk m).duties (recvCell1 c) 0 = {0} := rfl
theorem duties_recv2 : (talk m).duties (recvCell2 c) 0 = {0} := rfl

theorem dutK_later (k : Fin 7) : ∀ r, 2 ≤ r → dutK k r = ∅ := fun r hr => by
  obtain ⟨r, rfl⟩ : ∃ r', r = r' + 2 := ⟨r - 2, by omega⟩
  fin_cases k <;> rfl
theorem dutK_after (k : Fin 7) (hk : k ≠ 1) : ∀ r, 1 ≤ r → dutK k r = ∅ := fun r hr => by
  obtain ⟨r, rfl⟩ : ∃ r', r = r' + 1 := ⟨r - 1, by omega⟩
  fin_cases k <;> first | rfl | exact absurd rfl hk

theorem expect_bar : (talk m).expect (barCell c) 0 = 3 := rfl
theorem expect_xfer (g : GSem nD τ sig) (r : ℕ) (hd : (talk m).duties g r = {0}) (hk : kindOf g.2 ≠ 0) : (talk m).expect g r = N := by
  unfold Schedule.expect Schedule.amountOf; rw [hd, Finset.sum_singleton]; exact if_neg hk

theorem rest_bar : bigSep ((talk m).duties (barCell c) 0 \ ∅) (fun d => (talk m).payload (barCell c) 0 d) = iprop(barPay (F := F) c 1 ∗ barPay (F := F) c 2 ∗ barPay (F := F) c 3) := by
  rw [Finset.sdiff_empty, duties_bar, bigSep_eq_bigSepL_of_eq [1, 2, 3] (by decide) (by decide)]
  rfl
theorem rest_xfer (g : GSem nD τ sig) (r : ℕ) (hd : (talk m).duties g r = {0}) :
    bigSep ((talk m).duties g r \ ∅) (fun d => (talk m).payload g r d) = (talk m).payload g r 0 := by
  rw [Finset.sdiff_empty, hd, bigSep_singleton]

end Tables

/-! ## What each device owes at launch; the levels -/

/-- After the two earlier sends a device owes the last: to the device two places on. -/
def O₁ (c : Dev nD) : CellTallies nD τ sig Unit := tallyAt (recvCell1 (hop c 2)) () N
def O₂ (c : Dev nD) : CellTallies nD τ sig Unit := O₁ c + tallyAt (recvCell2 (hop c 3)) () N
def O₃ (c : Dev nD) : CellTallies nD τ sig Unit := O₂ c + tallyAt (recvCell0 (hop c 1)) () N
/-- Before its sends it owes the three barrier signals, made in this order: one place on, two, three. -/
def O₄ (c : Dev nD) : CellTallies nD τ sig Unit := O₃ c + tallyAt (barCell (hop c 3)) () 1
def O₅ (c : Dev nD) : CellTallies nD τ sig Unit := O₄ c + tallyAt (barCell (hop c 2)) () 1
def O₀ (c : Dev nD) : CellTallies nD τ sig Unit := O₅ c + tallyAt (barCell (hop c 1)) () 1

def L (g : GSem nD τ sig) : Finset Unit := if g.1.2 = .tc then {()} else ∅
/-- Barrier cells at 1, receive cells at 2, everything else at 0. -/
def lvK (k : Fin 7) : ℕ := match k with | 0 => 1 | 3 => 2 | 4 => 2 | 5 => 2 | _ => 0
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl

/-- Every cell a tally charges is a core's, at level `n` or above. -/
def Above (n : ℕ) (O : CellTallies nD τ sig Unit) : Prop := ∀ g u, 0 < O g u → g.1.2 = .tc ∧ n ≤ lv g u
theorem Above.tally {n : ℕ} (g : GSem nD τ sig) (k : ℕ) (hg : g.1.2 = .tc) (hn : n ≤ lv g ()) : Above n (tallyAt g () k) := fun g' u h => by
  rw [tallyAt_apply] at h
  by_cases h' : g' = g ∧ u = ()
  · obtain ⟨rfl, rfl⟩ := h'; exact ⟨hg, hn⟩
  · rw [if_neg h'] at h; exact absurd h (Nat.lt_irrefl 0)
theorem Above.add {n : ℕ} {O O' : CellTallies nD τ sig Unit} (h : Above n O) (h' : Above n O') : Above n (O + O') := fun g u hg => by
  rw [Pi.add_apply, Finsupp.add_apply] at hg
  rcases (by omega : 0 < O g u ∨ 0 < O' g u) with h1 | h1
  · exact h g u h1
  · exact h' g u h1
theorem Above.mono {n n' : ℕ} {O : CellTallies nD τ sig Unit} (h : Above n O) (hn : n' ≤ n) : Above n' O := fun g u hg => ⟨(h g u hg).1, hn.trans (h g u hg).2⟩

theorem above₁ (c : Dev nD) : Above 2 (O₁ c) := .tally _ _ rfl (by show 2 ≤ lvK 4; decide)
theorem above₂ (c : Dev nD) : Above 2 (O₂ c) := (above₁ c).add (.tally _ _ rfl (by show 2 ≤ lvK 5; decide))
theorem above₃ (c : Dev nD) : Above 2 (O₃ c) := (above₂ c).add (.tally _ _ rfl (by show 2 ≤ lvK 3; decide))
theorem above₀ (c : Dev nD) : Above 1 (O₀ c) :=
  (((((above₃ c).mono (by decide)).add (.tally _ _ rfl (by show 1 ≤ lvK 0; decide))).add (.tally _ _ rfl (by show 1 ≤ lvK 0; decide))).add (.tally _ _ rfl (by show 1 ≤ lvK 0; decide)))

omit [FloatOps F] in
/-- A core may wait on a semaphore at a level below every one it owes. -/
theorem mayWait (c : Dev nD) (sm : SemLoc sig) (n : ℕ) (hs : lvK (kindOf sm) ≤ n) (O : CellTallies nD τ sig Unit) (hO : Above (n + 1) O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by show u ∈ L g; unfold L; rw [if_pos (hO g u hg).1]; exact Finset.mem_singleton_self _)
    (fun p hp => by rw [Finset.mem_singleton.mp hp]; exact hs)
    (fun g u hg => (hO g u hg).2)

end Cert.KernelIdeal.Hand

end
-- ==== Proof.Steps.lean ====
/-
What the loads of the run read, and one tile product.
-/
module

public import proofs.«01_k».proof.Proof.Protocol
public import Idealize.ShloMosaic.Lib.Pipeline.Value
public import Idealize.ShloMosaic.Lib.Pipeline.ReadBack

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What one load reads, after the store or transfer before it -/

/-- A slot holds what the last transfer into it brought. -/
theorem slot_read {s s' : Shape} {sp : Space} {e : EltTy} (M : Memref sig .tc sp s e) (r : Rect s) (hr : ∀ a, r.stride a = 1) (hq : r.shape.Squeezes s')
    (hc : r.shape.ShapeCasts s') (g : M.view.ty.Contents (Elt F)) (v : s'.Idx → Elt F e) (L : List (View.Piece (Elt F) s' e)) :
    shapeCast s' (M.view.readAt (Elt F) r.toLoadRect (((M.slice r hr).squeeze s' hq).view.writes (Elt F) g (⟨Rect.whole s', v⟩ :: L))) hc = v := by
  rw [← Memref.read_squeeze_slice M r hr hq hc]
  funext y
  have h := View.read_writes_cons_emb ((M.slice r hr).squeeze s' hq).view g (Rect.whole s') v L y
  rwa [Rect.emb_whole_apply] at h

/-- An x tile, fetched into either slot, read back and rounded. -/
theorem x_read (X : XC F) (k : Fin 8) (off : Fin 2 → ℕ) (hoff : off = ![0, 512 * k.val]) (h : ∀ a, off a + S1024x512.size a ≤ S1024x4096.size a)
    (r : Rect S2x1024x512) (hr : ∀ a, r.stride a = 1) (hq : r.shape.Squeezes S1024x512) (hc : r.shape.ShapeCasts S1024x512) (hs)
    (g : xT.view.ty.Contents (Elt F)) (L : List (View.Piece (Elt F) S1024x512 .f32)) :
    shapeCast S1024x512 (truncf .bf16 (shapeCast S1024x512 (xT.view.readAt (Elt F) r.toLoadRect (((xT.slice r hr).squeeze S1024x512 hq).view.writes (Elt F) g
      (⟨Rect.whole S1024x512, ReadAs.same.apply ((aX.slice (Rect.unit (s := S1024x4096) off S1024x512.size h) (fun _ => rfl)).view.read (Elt F) X)⟩ :: L))) hc)
      bitsLt_bf16_f32) hs = xTile16 X k := by
  subst hoff; rw [slot_read, shapeCast_self]; rfl

/-- A w tile, fetched into either slot, read back and rounded. -/
theorem w_read (Wt : WC F) (q : Dev nD) (k : Fin 8) (off : Fin 2 → ℕ) (hoff : off = ![512 * k.val, 2048 * q.val]) (h : ∀ a, off a + S512x2048.size a ≤ S4096x8192.size a)
    (r : Rect S2x512x2048) (hr : ∀ a, r.stride a = 1) (hq : r.shape.Squeezes S512x2048) (hc : r.shape.ShapeCasts S512x2048) (hs)
    (g : wT.view.ty.Contents (Elt F)) (L : List (View.Piece (Elt F) S512x2048 .f32)) :
    shapeCast S512x2048 (truncf .bf16 (shapeCast S512x2048 (wT.view.readAt (Elt F) r.toLoadRect (((wT.slice r hr).squeeze S512x2048 hq).view.writes (Elt F) g
      (⟨Rect.whole S512x2048, ReadAs.same.apply ((aW.slice (Rect.unit (s := S4096x8192) off S512x2048.size h) (fun _ => rfl)).view.read (Elt F) Wt)⟩ :: L))) hc)
      bitsLt_bf16_f32) hs = wTile16 Wt q k := by
  subst hoff; rw [slot_read, shapeCast_self]; rfl

/-- The columns of x tile `k`, in the cast copy of the x block. -/
abbrev xBox (k : Fin 8) : Rect S1024x4096 := Rect.unit (s := S1024x4096) ![0, 512 * k.val] S1024x512.size (inbX k)
/-- The cast copy, once every tile is in, reads back each. -/
theorem xB_read (X : Fin 8 → FVec F S1024x512 .bf16) {p0 p1 p2 p3 p4 p5 p6 p7 : FVec F S1024x512 .bf16} (h7 : p7 = X 7) (h6 : p6 = X 6) (h5 : p5 = X 5) (h4 : p4 = X 4)
    (h3 : p3 = X 3) (h2 : p2 = X 2) (h1 : p1 = X 1) (h0 : p0 = X 0) (k : Fin 8) :
    xB.view.readCov (Val := Elt F) [⟨xBox 7, p7⟩, ⟨xBox 6, p6⟩, ⟨xBox 5, p5⟩, ⟨xBox 4, p4⟩, ⟨xBox 3, p3⟩, ⟨xBox 2, p2⟩, ⟨xBox 1, p1⟩, ⟨xBox 0, p0⟩]
      (xBox k).toLoadRect = X k := by
  subst h0 h1 h2 h3 h4 h5 h6 h7
  fin_cases k <;> (repeat rw [View.readCov_skip _ _ _ _ _ (by decide)]) <;> exact View.readCov_cons_toLoadRect _ _ _ _

/-! ## One tile product -/

abbrev wBox : Rect S512x2048 := Rect.unit ![0, 0] S512x2048.size inb_S512x2048_S512x2048_0_0
abbrev sBox : Rect S1024x2048 := Rect.unit ![0, 0] S1024x2048.size inb_S1024x2048_S1024x2048_0_0

/-- The first product, stored; -/
theorem first_step {x a : FVec F S1024x512 .bf16} {pw b : FVec F S512x2048 .bf16} (hx : x = a) (hw : pw = b) {Lw : List (View.Piece (Elt F) S512x2048 .bf16)} {h : S1024x2048.ShapeCasts S1024x2048} :
    shapeCast S1024x2048 (matmul dot_S1024x512_S512x2048_S1024x2048_1_0_0_1_n_n none x (wB.view.readCov (⟨wBox, pw⟩ :: Lw) wBox.toLoadRect)
      (constant S1024x2048 .f32 0x00000000#32)) h = dotFirst a b := by
  rw [View.readCov_cons_toLoadRect, hx, hw]; exact shapeCast_self (dotFirst a b) _
/-- a product added to the sum read back, stored. -/
theorem next_step {x a : FVec F S1024x512 .bf16} {pw b : FVec F S512x2048 .bf16} {ps s : FVec F S1024x2048 .f32} (hx : x = a) (hw : pw = b) (hs : ps = s)
    {Lw : List (View.Piece (Elt F) S512x2048 .bf16)} {Ls : List (View.Piece (Elt F) S1024x2048 .f32)} {h : S1024x2048.ShapeCasts S1024x2048} :
    shapeCast S1024x2048 (addf (st.view.readCov (⟨sBox, ps⟩ :: Ls) sBox.toLoadRect)
      (matmul dot_S1024x512_S512x2048_S1024x2048_1_0_0_1_n_n none x (wB.view.readCov (⟨wBox, pw⟩ :: Lw) wBox.toLoadRect)
        (constant S1024x2048 .f32 0x00000000#32))) h = dotNext a b s := by
  rw [View.readCov_cons_toLoadRect, View.readCov_cons_toLoadRect, hx, hw, hs]; exact shapeCast_self (dotNext a b s) _

/-! ## A block sent, a block received, a block of rows written -/

/-- What a send slot holds once the finished sum has gone through `silu` into it; -/
theorem send_read (r : Rect S2x1024x2048) (hr : ∀ a, r.stride a = 1) (hq : r.shape.Squeezes S1024x2048) (hc : S1024x2048.ShapeCasts r.shape) (hc' : r.shape.ShapeCasts S1024x2048) (f : sB.view.ty.Contents (Elt F))
    {ps b : FVec F S1024x2048 .f32} (hs : ps = b) {Ls : List (View.Piece (Elt F) S1024x2048 .f32)} :
    ((sB.slice r hr).squeeze S1024x2048 hq).view.read (Elt F)
      (View.write (Elt F) (sB.access r) f (shapeCast r.shape (silu16 (st.view.readCov (⟨sBox, ps⟩ :: Ls) sBox.toLoadRect)) hc) Finset.univ) = silu16 b := by
  rw [View.readCov_cons_toLoadRect, hs, Memref.read_squeeze_slice sB r hr hq hc', View.readAt_rect]
  refine (congrArg (fun v => shapeCast S1024x2048 v hc') (View.read_write_univ (v := sB.access r) f _)).trans ?_
  exact shapeCast_shapeCast _ _ _
/-- the staging buffer holds what was last stored into it: -/
theorem stage_read (f : st.view.ty.Contents (Elt F)) (w : FVec F S1024x2048 .f32) (L : List (View.Piece (Elt F) S1024x2048 .f32)) {h : S1024x2048.ShapeCasts S1024x2048} :
    st.view.read (Elt F) (st.view.writes (Elt F) f (⟨sBox, shapeCast S1024x2048 w h⟩ :: L)) = w := by
  refine Eq.trans (funext fun y => ?_) (shapeCast_self w h)
  have e := View.read_writes_cons_emb st.view f sBox (shapeCast S1024x2048 w h) L y
  rwa [show sBox.emb y = y from funext fun a => Fin.ext (by rw [Rect.emb_apply]; fin_cases a <;> (show 0 + 1 * _ = _; omega))] at e
/-- the device's own block through `silu`, -/
theorem own_read (f : st.view.ty.Contents (Elt F)) {ps b : FVec F S1024x2048 .f32} (hs : ps = b) {L Ls : List (View.Piece (Elt F) S1024x2048 .f32)} {h : S1024x2048.ShapeCasts S1024x2048} :
    ReadAs.same.apply (st.view.read (Elt F) (st.view.writes (Elt F) f (⟨sBox, shapeCast S1024x2048 (silu (st.view.readCov (⟨sBox, ps⟩ :: Ls) sBox.toLoadRect)) h⟩ :: L)))
      = silu b := by
  rw [View.readCov_cons_toLoadRect, hs]; exact stage_read f _ L
/-- or a received one, widened. -/
theorem recv_read (f : st.view.ty.Contents (Elt F)) (r : Rect S3x1024x2048) (hr : ∀ a, r.stride a = 1) (hq : r.shape.Squeezes S1024x2048) (hc : r.shape.ShapeCasts S1024x2048)
    (g : rB.view.ty.Contents (Elt F)) {v : FVec F S1024x2048 .bf16} (hv : ((rB.slice r hr).squeeze S1024x2048 hq).view.read (Elt F) g = v)
    {L : List (View.Piece (Elt F) S1024x2048 .f32)} {h : S1024x2048.ShapeCasts S1024x2048} :
    ReadAs.same.apply (st.view.read (Elt F) (st.view.writes (Elt F) f
      (⟨sBox, shapeCast S1024x2048 (extf .f32 (shapeCast S1024x2048 (rB.view.readAt (Elt F) r.toLoadRect g) hc) bitsLt_bf16_f32) h⟩ :: L)))
      = extf .f32 v bitsLt_bf16_f32 := by
  rw [← hv]; exact stage_read f _ L

/-- The result after a box of it is written: in the box, and off it. -/
theorem out_hit (R : Rect S4096x2048) (hR : ∀ a, R.stride a = 1) (f : (main_v1 : Ref sig .tc).ty.Contents (Elt F)) (w : R.shape.Idx → Elt F .f32) (x : R.shape.Idx) :
    View.write (Elt F) (aO.slice R hR).view f w Finset.univ (R.emb x) = w x :=
  View.read_slice_write_emb (v := aO.view) (Val := Elt F) R f w (Finset.mem_univ x)
theorem out_miss (R : Rect S4096x2048) (hR : ∀ a, R.stride a = 1) (f : (main_v1 : Ref sig .tc).ty.Contents (Elt F)) (w : R.shape.Idx → Elt F .f32) (i : S4096x2048.Idx)
    (h : i ∉ Finset.univ.map R.emb) : View.write (Elt F) (aO.slice R hR).view f w Finset.univ i = f i :=
  View.read_slice_write_of_not_mem (v := aO.view) (Val := Elt F) R f w Finset.univ h

/-- The result after one device's rows are written: those rows the block, the others as they were. -/
theorem rows_write (s : Dev nD) (off : Fin 2 → ℕ) (hoff : off = ![1024 * s.val, 0]) (h : ∀ a, off a + S1024x2048.size a ≤ S4096x2048.size a)
    (hr : ∀ a, (Rect.unit (s := S4096x2048) off S1024x2048.size h).stride a = 1) (f : (main_v1 : Ref sig .tc).ty.Contents (Elt F)) (w : FVec F S1024x2048 .f32) (i : S4096x2048.Idx) :
    View.write (Elt F) (aO.slice (Rect.unit (s := S4096x2048) off S1024x2048.size h) hr).view f w Finset.univ i = if rowDev i = s then w (rowIdx i) else f i := by
  have hs : s.val < 4 := s.isLt
  have h0 : off 0 = 1024 * s.val := by rw [hoff]; rfl
  have h1 : off 1 = 0 := by rw [hoff]; rfl
  by_cases hi : rowDev i = s
  · have hv : (i 0).val / 1024 = s.val := congrArg Fin.val hi
    have e := out_hit (Rect.unit (s := S4096x2048) off S1024x2048.size h) hr f w (rowIdx i)
    rw [show (Rect.unit (s := S4096x2048) off S1024x2048.size h).emb (rowIdx i) = i from funext fun a => Fin.ext (by
      rw [Rect.emb_apply]
      fin_cases a
      · show off 0 + 1 * ((i 0).val % 1024) = (i 0).val; omega
      · show off 1 + 1 * (i 1).val = (i 1).val; omega)] at e
    rw [if_pos hi]; exact e
  · rw [if_neg hi]
    refine out_miss (Rect.unit (s := S4096x2048) off S1024x2048.size h) hr f w i fun hm => hi ?_
    obtain ⟨x, -, rfl⟩ := Finset.mem_map.mp hm
    refine Fin.ext ?_
    have hx : (x 0).val < 1024 := (x 0).isLt
    show (off 0 + 1 * (x 0).val) / 1024 = s.val
    omega

/-- The four devices' rows are all of them. -/
theorem rows_all (c : Dev nD) (G : Dev nD → FVec F S1024x2048 .f32) {w0 w1 w2 w3 : FVec F S1024x2048 .f32} (h0 : w0 = G c) (h1 : w1 = G (hop c 1)) (h2 : w2 = G (hop c 2)) (h3 : w3 = G (hop c 3))
    (s : Dev nD) (x : S1024x2048.Idx) (z : F .f32) :
    (if s = hop c 2 then w2 x else if s = hop c 1 then w1 x else if s = hop c 3 then w3 x else if s = c then w0 x else z) = G s x := by
  subst h0 h1 h2 h3
  have hall : ∀ s c : Dev nD, s = hop c 2 ∨ s = hop c 1 ∨ s = hop c 3 ∨ s = c := by decide
  split_ifs with a2 a1 a3 a0
  · rw [a2]
  · rw [a1]
  · rw [a3]
  · rw [a0]
  · exact absurd (hall s c) (by simp [a2, a1, a3, a0])

end Cert.KernelIdeal.Hand

end
-- ==== Proof.Run.lean ====
/-
The body, run at a symbolic device.
-/
module

public import proofs.«01_k».proof.Proof.Protocol
public import proofs.«01_k».proof.Proof.Steps

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The conversation's invariants and every cell's first round reached. -/
def records (K : Dev nD × Fin 6 → ℕ) : sProp 𝕄 :=
  iprop((bigSep Finset.univ fun ck : Dev nD × Fin 6 => cellInv ER (talk m) (K ck) (kcell ck))
    ∗ bigSep Finset.univ fun ck : Dev nD × Fin 6 => reached ER (kcell ck) 0)

instance records_persistent (K : Dev nD × Fin 6 → ℕ) : BI.Persistent (records m K) := by unfold records; infer_instance

theorem inv_at (K : Dev nD × Fin 6 → ℕ) (c : Dev nD) (k : Fin 6) : records m K ⊢ cellInv ER (talk m) (K (c, k)) (kcell (c, k)) :=
  (show records m K ⊢ bigSep Finset.univ fun ck : Dev nD × Fin 6 => (cellInv ER (talk m) (K ck) (kcell ck) : sProp 𝕄) by
    unfold records; iintro ⟨H, -⟩; iexact H).trans (bigSep_elim (Finset.mem_univ (c, k)))
theorem reached_at (K : Dev nD × Fin 6 → ℕ) (c : Dev nD) (k : Fin 6) : records m K ⊢ reached ER (kcell (c, k)) 0 :=
  (show records m K ⊢ bigSep Finset.univ fun ck : Dev nD × Fin 6 => (reached ER (kcell ck) 0 : sProp 𝕄) by
    unfold records; iintro ⟨-, H⟩; iexact H).trans (bigSep_elim (Finset.mem_univ (c, k)))

/-- The tokens of the duties device `c` pays. -/
def payToks (c : Dev nD) : sProp 𝕄 :=
  iprop(dutyTok ER (barCell (hop c 1)) 0 1 ∗ dutyTok ER (barCell (hop c 2)) 0 2 ∗ dutyTok ER (barCell (hop c 3)) 0 3
    ∗ dutyTok ER (sendCell0 c) 0 0 ∗ dutyTok ER (sendCell0 c) 1 0 ∗ dutyTok ER (sendCell1 c) 0 0
    ∗ dutyTok ER (recvCell0 (hop c 1)) 0 0 ∗ dutyTok ER (recvCell1 (hop c 2)) 0 0 ∗ dutyTok ER (recvCell2 (hop c 3)) 0 0)
/-- Its places in its own cells. -/
def places (c : Dev nD) : sProp 𝕄 :=
  iprop(atPos ER (barCell c) 0 ∅ 0 ∗ atPos ER (sendCell0 c) 0 ∅ 0 ∗ atPos ER (sendCell1 c) 0 ∅ 0
    ∗ atPos ER (recvCell0 c) 0 ∅ 0 ∗ atPos ER (recvCell1 c) 0 ∅ 0 ∗ atPos ER (recvCell2 c) 0 ∅ 0)
/-- The credit it holds at launch. -/
def creds (c : Dev nD) : sProp 𝕄 :=
  iprop(cred (tallyAt (barCell c) () 3) ∗ cred (tallyAt (recvCell0 c) () N) ∗ cred (tallyAt (recvCell1 c) () N) ∗ cred (tallyAt (recvCell2 c) () N))
/-- The semaphores of its own transfers, at zero. -/
def localSems (c : Dev nD) : sProp 𝕄 :=
  iprop(semVal ((c : Thread nD τ), SemLoc.dma (0 : DmaSem sig)) 0 ∗ semVal ((c : Thread nD τ), SemLoc.dma (1 : DmaSem sig)) 0
      ∗ semVal ((c : Thread nD τ), SemLoc.dma (2 : DmaSem sig)) 0 ∗ semVal ((c : Thread nD τ), SemLoc.dma (3 : DmaSem sig)) 0
      ∗ semVal ((c : Thread nD τ), SemLoc.dma (9 : DmaSem sig)) 0)
/-- The conversation's semaphores closed. -/
def talkSems (c : Dev nD) : sProp 𝕄 :=
  iprop(semVal (barCell c) 0 ∗ semVal (sendCell0 c) 0 ∗ semVal (sendCell1 c) 0 ∗ semVal (recvCell0 c) 0 ∗ semVal (recvCell1 c) 0 ∗ semVal (recvCell2 c) 0)

abbrev whole (c : Dev nD) {sp : Space} {S : Shape} {e : EltTy} (M : Memref sig .tc sp S e) (f : Bf (F := F) c M) : sProp 𝕄 :=
  M.view.loc (c : Thread nD τ) ↦{fullShare} f

/-- Its scratch memory, whatever it holds, the slots apart. -/
def scratch (c : Dev nD) : sProp 𝕄 :=
  iprop((∃ f, whole (F := F) c xB f) ∗ (∃ f, pt (F := F) c xT0 f) ∗ (∃ f, pt (F := F) c xT1 f) ∗ (∃ f, pt (F := F) c wT0 f) ∗ (∃ f, pt (F := F) c wT1 f)
    ∗ (∃ f, whole (F := F) c wB f) ∗ (∃ f, whole (F := F) c st f) ∗ (∃ f, pt (F := F) c sB0 f) ∗ (∃ f, pt (F := F) c sB1 f)
    ∗ (∃ f, pt (F := F) c rB0 f) ∗ (∃ f, pt (F := F) c rB1 f) ∗ (∃ f, pt (F := F) c rB2 f))

/-- Its arguments, cut into a share for each transfer in flight. -/
def args (c : Dev nD) : sProp 𝕄 :=
  iprop((aX.view.loc (c : Thread nD τ) ↦{Transfers.shareTokN fullShare 0} xOf m c) ∗ (aX.view.loc (c : Thread nD τ) ↦{Transfers.shareTokN fullShare 1} xOf m c)
      ∗ (aW.view.loc (c : Thread nD τ) ↦{Transfers.shareTokN fullShare 2} wOf m c) ∗ (aW.view.loc (c : Thread nD τ) ↦{Transfers.shareTokN fullShare 3} wOf m c))

def bodyPost (c : Dev nD) : sProp 𝕄 :=
  iprop(args m c ∗ whole (F := F) c aO (outAt m c) ∗ scratch (F := F) c ∗ localSems (F := F) c ∗ talkSems (F := F) c)

/-! ## The steps of the conversation -/

theorem hop_hop (c : Dev nD) (a b : ℕ) : hop (hop c a) b = hop c (a + b) := Fin.ext (by show ((c.val + a) % 4 + b) % 4 = (c.val + (a + b)) % 4; omega)
theorem hop_zero (c : Dev nD) : hop c 0 = c := Fin.ext (Nat.mod_eq_of_lt c.isLt)
theorem hop_four (c : Dev nD) : hop c 4 = c := Fin.ext (by show (c.val + 4) % 4 = c.val; have h : c.val < 4 := c.isLt; omega)

/-- What the three signals hand over: the signaller's three landing slots. -/
theorem give₁ (c : Dev nD) (f : Bf (F := F) c rB2) : pt (F := F) c rB2 f ⊢ barPay (F := F) (hop c 1) 1 := by
  show _ ⊢ iprop(∃ f, pt (F := F) (hop (hop c 1) 3) rB2 f)
  rw [hop_hop, hop_four]; iintro H; iexists f; iexact H
theorem give₂ (c : Dev nD) (f : Bf (F := F) c rB1) : pt (F := F) c rB1 f ⊢ barPay (F := F) (hop c 2) 2 := by
  show _ ⊢ iprop(∃ f, pt (F := F) (hop (hop c 2) 2) rB1 f)
  rw [hop_hop, hop_four]; iintro H; iexists f; iexact H
theorem give₃ (c : Dev nD) (f : Bf (F := F) c rB0) : pt (F := F) c rB0 f ⊢ barPay (F := F) (hop c 3) 3 := by
  show _ ⊢ iprop(∃ f, pt (F := F) (hop (hop c 3) 1) rB0 f)
  rw [hop_hop, hop_four]; iintro H; iexists f; iexact H

/-- A barrier signal to device `dst`, paying its duty `d`. -/
theorem wp_signal_hop (K : Dev nD × Fin 6 → ℕ) (c n dst : Dev nD) (hn : n = dst) (d : Fin 4) (hd : d ∈ ({1, 2, 3} : Finset (Fin 4)))
    (O O' : CellTallies nD τ sig Unit) (W : Waits sig Unit) (hO : O = O' + tallyAt (barCell dst) () 1)
    {α : Type} (Q : α → sProp 𝕄) (k : PUnit → Prog (TpuEff nD τ sig (Elt F) Λ₀ .tc) α) :
    iprop(records m K ∗ owes (c : Thread nD τ) O W ∗ dutyTok ER (barCell dst) 0 d ∗ barPay (F := F) dst d)
      ⊢ iprop((owes (c : Thread nD τ) O' W -∗ wp frame (wpE (defs₀ (F := F)) Variants.none (c : Thread nD τ) none) Set.univ (k ⟨⟩) Q) -∗ wp frame (wpE (defs₀ (F := F)) Variants.none (c : Thread nD τ) none) Set.univ (.op (.semSignal ((n, Proc.tc) : Thread nD τ) barS (1#32).toInt) k) Q) := by
  subst hn
  iintro ⟨#HR, HO, Ht, Hp⟩ Hk
  iapply (Rounds.wp_signal Variants.none ER (talk m) (c : Thread nD τ) none (dst := (n : Thread nD τ)) (κ := K (n, 0)) (r := 0)
      (d := d) (by rw [duties_bar]; exact hd) (show (1 : ℕ) = _ from rfl) () O' hO) $$ [HO Ht Hp]
  · isplitr; · iapply (inv_at m K n 0); iexact HR
    isplitl [HO]; · iexact HO
    isplitl [Ht]; · iexact Ht
    isplitl [Hp]; · iapply (Entails.of_eq (show barPay (F := F) n d = (talk m).payload (barCell n) 0 d from rfl)); iexact Hp
    iapply (reached_at m K n 0); iexact HR
  iexact Hk

/-- The wait for the three signals: the slots the device will write. -/
theorem wp_wait_bar (K : Dev nD × Fin 6 → ℕ) (c : Dev nD) (W : Waits sig Unit)
    {α : Type} (Q : α → sProp 𝕄) (k : PUnit → Prog (TpuEff nD τ sig (Elt F) Λ₀ .tc) α) :
    iprop(records m K ∗ levAts L lv ∗ cred (tallyAt (barCell c) () 3) ∗ owes (c : Thread nD τ) (O₃ c) W ∗ atPos ER (barCell c) 0 ∅ 0)
      ⊢ iprop(((owes (c : Thread nD τ) (O₃ c) (insert (SemLoc.reg barS, ()) W) ∗ atPos ER (barCell c) 1 ∅ 0
              ∗ (∃ f, pt (F := F) (hop c 3) rB2 f) ∗ (∃ f, pt (F := F) (hop c 2) rB1 f) ∗ (∃ f, pt (F := F) (hop c 1) rB0 f))
            -∗ wp frame (wpE (defs₀ (F := F)) Variants.none (c : Thread nD τ) none) Set.univ (k ⟨⟩) Q)
          -∗ wp frame (wpE (defs₀ (F := F)) Variants.none (c : Thread nD τ) none) Set.univ (.op (.semWait barS (3#32).toInt) k) Q) := by
  iintro ⟨#HR, #Hl, Hc, HO, Ha⟩ Hk
  iapply (Rounds.wp_wait_rest_token Variants.none ER (talk m) (c : Thread nD τ) none (κ := K (c, 0))
      (wpE_semWait_eq Variants.none (c : Thread nD τ) none Set.univ) (Set.mem_univ _) () (O := O₃ c) (W := W) (R := 0) (m := 0) (T := ∅)
      (by rw [expect_bar]; decide)) $$ [Hc HO Ha]
  · isplitr; · iapply (inv_at m K c 0); iexact HR
    isplitl [Hc]; · iexact Hc
    isplitl [HO]; · iexact HO
    isplitr; · iapply (mayWait c (.reg barS) 1 (by decide) (O₃ c) (above₃ c)); iexact Hl
    iexact Ha
  iintro ⟨HO, Ha, -, Hp⟩
  ihave Hp := (Entails.of_eq (rest_bar m c)) $$ Hp
  iapply Hk
  isplitl [HO]; · iexact HO
  isplitl [Ha]; · iexact Ha
  iexact Hp

/-- A wait on a send or receive cell for a block's credit: the cell's payload. -/
theorem wp_wait_block (K : Dev nD × Fin 6 → ℕ) (c : Dev nD) (j : Fin 6) (q : DmaSem sig) (hq : csem j = .dma q) (R : ℕ)
    (hd : dutK (kindOf (.dma q)) R = {0}) (hk0 : kindOf (.dma q) ≠ 0) {sp sp' : Space} {s s' : Shape} {e e' : EltTy}
    (src : Memref sig .tc sp' s' e') (dst : Memref sig .tc sp s e) {hsrc : src.view.WordExact} {hdst : dst.view.WordExact} (hN : dst.view.dmaCredit = N)
    (O : CellTallies nD τ sig Unit) (W : Waits sig Unit)
    {α : Type} (Q : α → sProp 𝕄) (k : PUnit → Prog (TpuEff nD τ sig (Elt F) Λ₀ .tc) α) :
    iprop(records m K ∗ cred (tallyAt ((c : Thread nD τ), SemLoc.dma q) () N) ∗ owes (c : Thread nD τ) O W ∗ MayWait (c : Thread nD τ) (.dma q) () O
        ∗ atPos ER ((c : Thread nD τ), SemLoc.dma q) R ∅ 0)
      ⊢ iprop(((owes (c : Thread nD τ) O (insert (SemLoc.dma q, ()) W) ∗ atPos ER ((c : Thread nD τ), SemLoc.dma q) (R + 1) ∅ 0
              ∗ reached ER ((c : Thread nD τ), SemLoc.dma q) (R + 1) ∗ payK m (kindOf (.dma q)) c 0)
            -∗ wp frame (wpE (defs₀ (F := F)) Variants.none (c : Thread nD τ) none) Set.univ (k ⟨⟩) Q)
          -∗ wp frame (wpE (defs₀ (F := F)) Variants.none (c : Thread nD τ) none) Set.univ (.op (.waitDma2 q src dst hsrc hdst) k) Q) := by
  have hkc : kcell (c, j) = ((c : Thread nD τ), SemLoc.dma q) := congrArg _ hq
  have hinv : records m K ⊢ cellInv ER (talk m) (K (c, j)) ((c : Thread nD τ), SemLoc.dma q) := hkc ▸ inv_at m K c j
  have hd' : (talk m).duties ((c : Thread nD τ), SemLoc.dma q) R = {0} := hd
  iintro ⟨#HR, Hc, HO, Hm, Ha⟩ Hk
  iapply (Rounds.wp_wait_rest_token Variants.none ER (talk m) (c : Thread nD τ) none (κ := K (c, j))
      (wpE_waitDma2_eq Variants.none (c : Thread nD τ) none Set.univ) (Set.mem_univ _) () (O := O) (W := W) (R := R) (m := 0) (T := ∅)
      (by rw [hN, Nat.zero_add, expect_xfer m _ R hd' hk0])) $$ [Hc HO Ha Hm]
  · isplitr; · iapply hinv; iexact HR
    isplitl [Hc]; · rw [hN]; iexact Hc
    isplitl [HO]; · iexact HO
    isplitl [Hm]; · iexact Hm
    iexact Ha
  iintro ⟨HO, Ha, Hr, Hp⟩
  ihave Hp := (Entails.of_eq (rest_xfer m _ R hd')) $$ Hp
  iapply Hk
  isplitl [HO]; · iexact HO
  isplitl [Ha]; · iexact Ha
  isplitl [Hr]; · iexact Hr
  iapply (Entails.of_eq (show (talk m).payload ((c : Thread nD τ), SemLoc.dma q) R 0 = payK m (kindOf (.dma q)) c 0 from rfl)); iexact Hp

/-- A block sent from slot `src` to slot `dst` of device `n'`: the send cell's duty and the receive cell's, the landing
    slot taken from the barrier's payload and paid back holding what `src` holds. -/
theorem wp_send_block (K : Dev nD × Fin 6 → ℕ) (c n n' : Dev nD) (hn : n = n') (j₁ j₂ : Fin 6) (qS qR : DmaSem sig) (h₁ : csem j₁ = .dma qS) (h₂ : csem j₂ = .dma qR)
    (r : ℕ) (hd₁ : dutK (kindOf (.dma qS)) r = {0}) (hd₂ : dutK (kindOf (.dma qR)) 0 = {0}) (hk₁ : kindOf (.dma qS) ≠ 0) (hk₂ : kindOf (.dma qR) ≠ 0)
    (src dst : Memref sig .tc .vmem S1024x2048 .bf16) (hN : dst.view.amount (.dma qR) = N)
    {hsc : (dst : Memref sig (Dev.tc n : Thread nD τ).2.kind .vmem S1024x2048 .bf16).view.ref.isScScratch = false}
    {hsrc : src.view.WordExact} {hdst : (dst : Memref sig (Dev.tc n : Thread nD τ).2.kind .vmem S1024x2048 .bf16).view.WordExact}
    {hsem : DmaTarget.Typed .vmem (.dma qR) (.remote (Dev.tc n : Thread nD τ) (dst : Memref sig (Dev.tc n : Thread nD τ).2.kind .vmem S1024x2048 .bf16) (.dma qS) hsc)}
    (O O' : CellTallies nD τ sig Unit) (W : Waits sig Unit) (hO : O = O' + tallyAt ((n' : Thread nD τ), SemLoc.dma qR) () N)
    (fs : Bf (F := F) c src)
    (hp₁ : pt (F := F) c src fs ⊢ payK m (kindOf (.dma qS)) c 0)
    (hp₂ : ∀ f : Bf (F := F) n' dst, dst.view.read (Elt F) f = src.view.read (Elt F) fs → (pt (F := F) n' dst f ⊢ payK m (kindOf (.dma qR)) n' 0))
    {α : Type} (Q : α → sProp 𝕄) (k : PUnit → Prog (TpuEff nD τ sig (Elt F) Λ₀ .tc) α) :
    iprop(records m K ∗ pt (F := F) c src fs ∗ (∃ fd, pt (F := F) n' dst fd) ∗ owes (c : Thread nD τ) O W
        ∗ dutyTok ER ((c : Thread nD τ), SemLoc.dma qS) r 0 ∗ reached ER ((c : Thread nD τ), SemLoc.dma qS) r ∗ dutyTok ER ((n' : Thread nD τ), SemLoc.dma qR) 0 0)
      ⊢ iprop(((cred (tallyAt ((c : Thread nD τ), SemLoc.dma qS) () N) ∗ owes (c : Thread nD τ) O' W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (Dev.tc n : Thread nD τ) dst (.dma qS) hsc) (.dma qR) hsrc hdst hsem) k) Q) := by
  subst hn
  have e₁ : records m K ⊢ cellInv ER (talk m) (K (c, j₁)) ((c : Thread nD τ), SemLoc.dma qS) :=
    (show kcell (c, j₁) = ((c : Thread nD τ), SemLoc.dma qS) from congrArg _ h₁) ▸ inv_at m K c j₁
  have e₂ : records m K ⊢ cellInv ER (talk m) (K (n, j₂)) ((n : Thread nD τ), SemLoc.dma qR) :=
    (show kcell (n, j₂) = ((n : Thread nD τ), SemLoc.dma qR) from congrArg _ h₂) ▸ inv_at m K n j₂
  have e₃ : records m K ⊢ reached ER ((n : Thread nD τ), SemLoc.dma qR) 0 :=
    (show kcell (n, j₂) = ((n : Thread nD τ), SemLoc.dma qR) from congrArg _ h₂) ▸ reached_at m K n j₂
  have hmem : ∀ {S : Finset (Fin 4)}, S = {0} → (0 : Fin 4) ∈ S := fun h => h ▸ Finset.mem_singleton_self _
  iintro ⟨#HR, Hs, ⟨%fd, Hd⟩, HO, Ht₁, Hr, Ht₂⟩ Hk
  iapply (Rounds.wp_send_pointsTo Variants.none ER (talk m) (c : Thread nD τ) none (κ₁ := K (c, j₁)) (κ₂ := K (n, j₂))
    (r₁ := r) (r₂ := 0) (d₁ := 0) (d₂ := 0) (fd := fd) (hmem hd₁) (hmem hd₂)
    () () N hN (if_neg hk₁) (if_neg hk₂) O' hO (W := W) hp₁
    (hp₂ _ (View.read_write_univ _ _))) $$ [Hs Hd HO Ht₁ Hr Ht₂]
  · isplitr; · iapply e₁; iexact HR
    isplitr; · iapply e₂; iexact HR
    isplitl [Hs]; · iexact Hs
    isplitl [Hd]; · iexact Hd
    isplitl [HO]; · iexact HO
    isplitl [Ht₁]; · iexact Ht₁
    isplitl [Hr]; · iexact Hr
    isplitl [Ht₂]; · iexact Ht₂
    iapply e₃; iexact HR
  iexact Hk

/-- A send slot is its send cell's payload; a receive slot holding the sender's block is its receive cell's. -/
theorem fun_sendPay0 (c : Dev nD) (f : Bf (F := F) c sB0) : pt (F := F) c sB0 f ⊢ payK m (kindOf (.dma sendS0.sem)) c 0 := by
  show _ ⊢ sendPay0 (F := F) c
  unfold sendPay0; iintro H; iexists f; iexact H
theorem fun_sendPay1 (c : Dev nD) (f : Bf (F := F) c sB1) : pt (F := F) c sB1 f ⊢ payK m (kindOf (.dma sendS1.sem)) c 0 := by
  show _ ⊢ sendPay1 (F := F) c
  unfold sendPay1; iintro H; iexists f; iexact H
theorem recvPay0_intro (c : Dev nD) (X : FVec F S1024x2048 .bf16) (h : X = sent m c (hop c 1)) (f : Bf (F := F) (hop c 1) rB0) (hf : rB0.view.read (Elt F) f = X) :
    pt (F := F) (hop c 1) rB0 f ⊢ payK m (kindOf (.dma recvS0.sem)) (hop c 1) 0 := by
  show _ ⊢ recvPay0 m (hop c 1)
  unfold recvPay0; rw [hop_hop, hop_four]
  iintro H; iexists f; isplitr
  · ipureintro; exact hf.trans h
  iexact H
theorem recvPay1_intro (c : Dev nD) (X : FVec F S1024x2048 .bf16) (h : X = sent m c (hop c 2)) (f : Bf (F := F) (hop c 2) rB1) (hf : rB1.view.read (Elt F) f = X) :
    pt (F := F) (hop c 2) rB1 f ⊢ payK m (kindOf (.dma recvS1.sem)) (hop c 2) 0 := by
  show _ ⊢ recvPay1 m (hop c 2)
  unfold recvPay1; rw [hop_hop, hop_four]
  iintro H; iexists f; isplitr
  · ipureintro; exact hf.trans h
  iexact H
theorem recvPay2_intro (c : Dev nD) (X : FVec F S1024x2048 .bf16) (h : X = sent m c (hop c 3)) (f : Bf (F := F) (hop c 3) rB2) (hf : rB2.view.read (Elt F) f = X) :
    pt (F := F) (hop c 3) rB2 f ⊢ payK m (kindOf (.dma recvS2.sem)) (hop c 3) 0 := by
  show _ ⊢ recvPay2 m (hop c 3)
  unfold recvPay2; rw [hop_hop, hop_four]
  iintro H; iexists f; isplitr
  · ipureintro; exact hf.trans h
  iexact H

/-- The rows of the result by how far away the device is that they come from. -/
theorem rowsFrom_self (c : Dev nD) : rowsFrom m c c = silu (blk (xOf m c) (wOf m c) c) := if_pos rfl
theorem rowsFrom_hop (c : Dev nD) (o : Fin 4) (ho : o ≠ 0) : rowsFrom m c (hop c o.val) = extf .f32 (sent m (hop c o.val) c) bitsLt_bf16_f32 :=
  if_neg (by revert c o; decide)

set_option maxHeartbeats 2000000 in
theorem sound_body (K : Dev nD × Fin 6 → ℕ) (c : Dev nD) (W : Waits sig Unit) (Kt : PUnit → sProp 𝕄) :
    iprop((records m K ∗ levAts L lv ∗ payToks c ∗ places c ∗ creds c ∗ args m c ∗ (∃ f, whole (F := F) c aO f) ∗ scratch (F := F) c ∗ localSems (F := F) c
        ∗ owes (c : Thread nD τ) (O₀ c) W)
      ∗ (∀ W', iprop(bodyPost m c ∗ owes (c : Thread nD τ) 0 W') -∗ Kt ⟨⟩))
      ⊢ wp frame (wpE (defs₀ (F := F)) Variants.none c none) Set.univ (bodyAt0 (F := F) t0_0) Kt := by
  unfold payToks places creds args scratch localSems
  iintro ⟨⟨#HR, #Hlev, ⟨HtB1, HtB2, HtB3, HtS0, HtS0', HtS1, HtR0, HtR1, HtR2⟩, ⟨HaB, HaS0, HaS1, HaR0, HaR1, HaR2⟩, ⟨HcB, HcR0, HcR1, HcR2⟩, ⟨HX0, HX1, HW2, HW3⟩, ⟨%fO, HO⟩,
    ⟨⟨%fB, HB⟩, ⟨%fx0, Hx0⟩, ⟨%fx1, Hx1⟩, ⟨%fw0, Hw0⟩, ⟨%fw1, Hw1⟩, ⟨%fwB, HwB⟩, ⟨%fst, Hst⟩, ⟨%fs0, Hs0⟩, ⟨%fs1, Hs1⟩, ⟨%fr0, Hr0⟩, ⟨%fr1, Hr1⟩, ⟨%fr2, Hr2⟩⟩,
    ⟨Hq0, Hq1, Hq2, Hq3, Hq9⟩, How⟩, Hk⟩
  have hl₃0 : (levAts L lv : sProp 𝕄) ⊢ MayWait (c : Thread nD τ) (.dma (0 : DmaSem sig)) () (O₃ c) := mayWait c _ 0 (by decide) _ ((above₃ c).mono (by decide))
  have hl₃1 : (levAts L lv : sProp 𝕄) ⊢ MayWait (c : Thread nD τ) (.dma (1 : DmaSem sig)) () (O₃ c) := mayWait c _ 0 (by decide) _ ((above₃ c).mono (by decide))
  have hl₃2 : (levAts L lv : sProp 𝕄) ⊢ MayWait (c : Thread nD τ) (.dma (2 : DmaSem sig)) () (O₃ c) := mayWait c _ 0 (by decide) _ ((above₃ c).mono (by decide))
  have hl₃3 : (levAts L lv : sProp 𝕄) ⊢ MayWait (c : Thread nD τ) (.dma (3 : DmaSem sig)) () (O₃ c) := mayWait c _ 0 (by decide) _ ((above₃ c).mono (by decide))
  have hl₂0 : (levAts L lv : sProp 𝕄) ⊢ MayWait (c : Thread nD τ) (.dma (0 : DmaSem sig)) () (O₂ c) := mayWait c _ 0 (by decide) _ ((above₂ c).mono (by decide))
  have hl₂1 : (levAts L lv : sProp 𝕄) ⊢ MayWait (c : Thread nD τ) (.dma (1 : DmaSem sig)) () (O₂ c) := mayWait c _ 0 (by decide) _ ((above₂ c).mono (by decide))
  have hl₂2 : (levAts L lv : sProp 𝕄) ⊢ MayWait (c : Thread nD τ) (.dma (2 : DmaSem sig)) () (O₂ c) := mayWait c _ 0 (by decide) _ ((above₂ c).mono (by decide))
  have hl₂3 : (levAts L lv : sProp 𝕄) ⊢ MayWait (c : Thread nD τ) (.dma (3 : DmaSem sig)) () (O₂ c) := mayWait c _ 0 (by decide) _ ((above₂ c).mono (by decide))
  have hl₁0 : (levAts L lv : sProp 𝕄) ⊢ MayWait (c : Thread nD τ) (.dma (0 : DmaSem sig)) () (O₁ c) := mayWait c _ 0 (by decide) _ ((above₁ c).mono (by decide))
  have hl₁1 : (levAts L lv : sProp 𝕄) ⊢ MayWait (c : Thread nD τ) (.dma (1 : DmaSem sig)) () (O₁ c) := mayWait c _ 0 (by decide) _ ((above₁ c).mono (by decide))
  have hl₁2 : (levAts L lv : sProp 𝕄) ⊢ MayWait (c : Thread nD τ) (.dma (2 : DmaSem sig)) () (O₁ c) := mayWait c _ 0 (by decide) _ ((above₁ c).mono (by decide))
  have hl₁3 : (levAts L lv : sProp 𝕄) ⊢ MayWait (c : Thread nD τ) (.dma (3 : DmaSem sig)) () (O₁ c) := mayWait c _ 0 (by decide) _ ((above₁ c).mono (by decide))
  unfold bodyAt0
  sl_exec
  iapply (wp_signal_hop m K c _ (hop c 1) (dev1_eq c) 1 (by decide) (O₀ c) (O₅ c) W rfl _ _) $$ [How HtB1 Hr2]
  · isplitr; · iexact HR
    isplitl [How]; · iexact How
    isplitl [HtB1]; · iexact HtB1
    iapply (give₁ c fr2); iexact Hr2
  iintro How
  sl_exec
  iapply (wp_signal_hop m K c _ (hop c 2) (dev2_eq c) 2 (by decide) (O₅ c) (O₄ c) W rfl _ _) $$ [How HtB2 Hr1]
  · isplitr; · iexact HR
    isplitl [How]; · iexact How
    isplitl [HtB2]; · iexact HtB2
    iapply (give₂ c fr1); iexact Hr1
  iintro How
  sl_exec
  iapply (wp_signal_hop m K c _ (hop c 3) (dev3_eq c) 3 (by decide) (O₄ c) (O₃ c) W rfl _ _) $$ [How HtB3 Hr0]
  · isplitr; · iexact HR
    isplitl [How]; · iexact How
    isplitl [HtB3]; · iexact HtB3
    iapply (give₃ c fr0); iexact Hr0
  iintro How
  sl_exec
  iapply (wp_wait_bar m K c W _ _) $$ [HcB How HaB]
  · isplitr; · iexact HR
    isplitr; · iexact Hlev
    isplitl [HcB]; · iexact HcB
    isplitl [How]; · iexact How
    iexact HaB
  iintro ⟨How, HaB, Hd2, Hd1, Hd0⟩
  sl_exec
  have hB : ∀ k : Fin 8, xB.view.readCov (sound_body.sl.HB_8 m c) (xBox k).toLoadRect = xTile16 (xOf m c) k :=
    xB_read (xTile16 (xOf m c)) (x_read _ 7 _ rfl _ _ _ _ _ _ _ _) (x_read _ 6 _ rfl _ _ _ _ _ _ _ _) (x_read _ 5 _ rfl _ _ _ _ _ _ _ _) (x_read _ 4 _ rfl _ _ _ _ _ _ _ _) (x_read _ 3 _ rfl _ _ _ _ _ _ _ _) (x_read _ 2 _ rfl _ _ _ _ _ _ _ _) (x_read _ 1 _ rfl _ _ _ _ _ _ _ _) (x_read _ 0 _ rfl _ _ _ _ _ _ _ _)
  have hblk1 : k0_pay26 (sound_body.sl.v411 m c) (sound_body.sl.v412 m c) (sound_body.sl.v414 m c) = blk (xOf m c) (wOf m c) (hop c 1) :=
    (next_step (hB 7) (w_read _ _ 7 _ (off8_eq c 1) _ _ _ _ _ _ _ _) (next_step (hB 6) (w_read _ _ 6 _ (off7_eq c 1) _ _ _ _ _ _ _ _) (next_step (hB 5) (w_read _ _ 5 _ (off6_eq c 1) _ _ _ _ _ _ _ _) (next_step (hB 4) (w_read _ _ 4 _ (off5_eq c 1) _ _ _ _ _ _ _ _) (next_step (hB 3) (w_read _ _ 3 _ (off4_eq c 1) _ _ _ _ _ _ _ _) (next_step (hB 2) (w_read _ _ 2 _ (off3_eq c 1) _ _ _ _ _ _ _ _) (next_step (hB 1) (w_read _ _ 1 _ (off2_eq c 1) _ _ _ _ _ _ _ _) (first_step (hB 0) (w_read _ _ 0 _ (off1_eq c 1) _ _ _ _ _ _ _ _)))))))))
  have hs1 : sB0.view.read (Elt F) (sound_body.sl.Hs0_w1 m c fs0) = sent m c (hop c 1) := send_read _ _ _ _ shapeCasts_S1x1024x2048_S1024x2048 _ hblk1
  iapply (wp_send_block m K c _ (hop c 1) (dev4_eq c) 1 3 sendS0.sem recvS0.sem rfl rfl 0 rfl rfl (by decide) (by decide) sB0 rB0 rfl
      (O₃ c) (O₂ c) _ rfl _ (fun_sendPay0 m c _) (recvPay0_intro m c _ hs1) _ _) $$ [Hs0 Hd0 How HtS0 HtR0]
  · isplitr; · iexact HR
    isplitl [Hs0]; · iexact Hs0
    isplitl [Hd0]; · iexact Hd0
    isplitl [How]; · iexact How
    isplitl [HtS0]; · iexact HtS0
    isplitr; · iapply (reached_at m K c 1); iexact HR
    iexact HtR0
  iintro ⟨HcS0, How⟩
  sl_exec
  have hblk3 : k0_pay44 (sound_body.sl.v626 m c) (sound_body.sl.v627 m c) (sound_body.sl.v629 m c) = blk (xOf m c) (wOf m c) (hop c 3) :=
    (next_step (hB 7) (w_read _ _ 7 _ (off8_eq c 3) _ _ _ _ _ _ _ _) (next_step (hB 6) (w_read _ _ 6 _ (off7_eq c 3) _ _ _ _ _ _ _ _) (next_step (hB 5) (w_read _ _ 5 _ (off6_eq c 3) _ _ _ _ _ _ _ _) (next_step (hB 4) (w_read _ _ 4 _ (off5_eq c 3) _ _ _ _ _ _ _ _) (next_step (hB 3) (w_read _ _ 3 _ (off4_eq c 3) _ _ _ _ _ _ _ _) (next_step (hB 2) (w_read _ _ 2 _ (off3_eq c 3) _ _ _ _ _ _ _ _) (next_step (hB 1) (w_read _ _ 1 _ (off2_eq c 3) _ _ _ _ _ _ _ _) (first_step (hB 0) (w_read _ _ 0 _ (off1_eq c 3) _ _ _ _ _ _ _ _)))))))))
  have hs3 : sB1.view.read (Elt F) (sound_body.sl.Hs1_w1 m c fs1) = sent m c (hop c 3) := send_read _ _ _ _ shapeCasts_S1x1024x2048_S1024x2048 _ hblk3
  iapply (wp_send_block m K c _ (hop c 3) (dev5_eq c) 2 5 sendS1.sem recvS2.sem rfl rfl 0 rfl rfl (by decide) (by decide) sB1 rB2 rfl
      (O₂ c) (O₁ c) _ rfl _ (fun_sendPay1 m c _) (recvPay2_intro m c _ hs3) _ _) $$ [Hs1 Hd2 How HtS1 HtR2]
  · isplitr; · iexact HR
    isplitl [Hs1]; · iexact Hs1
    isplitl [Hd2]; · iexact Hd2
    isplitl [How]; · iexact How
    isplitl [HtS1]; · iexact HtS1
    isplitr; · iapply (reached_at m K c 2); iexact HR
    iexact HtR2
  iintro ⟨HcS1, How⟩
  sl_exec
  iapply (wp_wait_block m K c 1 sendS0.sem rfl 0 rfl (by decide) _ sB0 rfl (O₁ c) _ _ _) $$ [HcS0 How HaS0]
  · isplitr; · iexact HR
    isplitl [HcS0]; · iexact HcS0
    isplitl [How]; · iexact How
    isplitr; · iapply (mayWait c (.dma sendS0.sem) 0 (by decide) (O₁ c) ((above₁ c).mono (by decide))); iexact Hlev
    iexact HaS0
  iintro ⟨How, HaS0, #Hrcha, Hp⟩
  ihave Hp := (Entails.of_eq (show payK m (kindOf (.dma sendS0.sem)) c 0 = sendPay0 (F := F) c from rfl)) $$ Hp
  unfold sendPay0
  icases Hp with ⟨%fs0a, Hs0⟩
  sl_exec
  have hblk2 : k0_pay63 (sound_body.sl.v847 m c) (sound_body.sl.v848 m c) (sound_body.sl.v850 m c) = blk (xOf m c) (wOf m c) (hop c 2) :=
    (next_step (hB 7) (w_read _ _ 7 _ (off8_eq c 2) _ _ _ _ _ _ _ _) (next_step (hB 6) (w_read _ _ 6 _ (off7_eq c 2) _ _ _ _ _ _ _ _) (next_step (hB 5) (w_read _ _ 5 _ (off6_eq c 2) _ _ _ _ _ _ _ _) (next_step (hB 4) (w_read _ _ 4 _ (off5_eq c 2) _ _ _ _ _ _ _ _) (next_step (hB 3) (w_read _ _ 3 _ (off4_eq c 2) _ _ _ _ _ _ _ _) (next_step (hB 2) (w_read _ _ 2 _ (off3_eq c 2) _ _ _ _ _ _ _ _) (next_step (hB 1) (w_read _ _ 1 _ (off2_eq c 2) _ _ _ _ _ _ _ _) (first_step (hB 0) (w_read _ _ 0 _ (off1_eq c 2) _ _ _ _ _ _ _ _)))))))))
  have hs2 : sB0.view.read (Elt F) (sound_body.sl.Hs0_w1_1 m c fs0a) = sent m c (hop c 2) := send_read _ _ _ _ shapeCasts_S1x1024x2048_S1024x2048 _ hblk2
  iapply (wp_send_block m K c _ (hop c 2) (dev6_eq c) 1 4 sendS0.sem recvS1.sem rfl rfl 1 rfl rfl (by decide) (by decide) sB0 rB1 rfl
      (O₁ c) 0 _ (zero_add _).symm _ (fun_sendPay0 m c _) (recvPay1_intro m c _ hs2) _ _) $$ [Hs0 Hd1 How HtS0' HtR1]
  · isplitr; · iexact HR
    isplitl [Hs0]; · iexact Hs0
    isplitl [Hd1]; · iexact Hd1
    isplitl [How]; · iexact How
    isplitl [HtS0']; · iexact HtS0'
    isplitr; · iexact Hrcha
    iexact HtR1
  iintro ⟨HcS0, How⟩
  sl_exec
  iapply (wp_wait_block m K c 2 sendS1.sem rfl 0 rfl (by decide) _ sB1 rfl (0) _ _ _) $$ [HcS1 How HaS1]
  · isplitr; · iexact HR
    isplitl [HcS1]; · iexact HcS1
    isplitl [How]; · iexact How
    isplitr; · rw [MayWait_zero]; iempintro
    iexact HaS1
  iintro ⟨How, HaS1, #Hrchb, Hp⟩
  ihave Hp := (Entails.of_eq (show payK m (kindOf (.dma sendS1.sem)) c 0 = sendPay1 (F := F) c from rfl)) $$ Hp
  unfold sendPay1
  icases Hp with ⟨%fs1a, Hs1⟩
  sl_exec
  iapply (wp_wait_block m K c 1 sendS0.sem rfl 1 rfl (by decide) _ sB0 rfl (0) _ _ _) $$ [HcS0 How HaS0]
  · isplitr; · iexact HR
    isplitl [HcS0]; · iexact HcS0
    isplitl [How]; · iexact How
    isplitr; · rw [MayWait_zero]; iempintro
    iexact HaS0
  iintro ⟨How, HaS0, #Hrchc, Hp⟩
  ihave Hp := (Entails.of_eq (show payK m (kindOf (.dma sendS0.sem)) c 0 = sendPay0 (F := F) c from rfl)) $$ Hp
  unfold sendPay0
  icases Hp with ⟨%fs0b, Hs0⟩
  sl_exec
  iapply (wp_wait_block m K c 3 recvS0.sem rfl 0 rfl (by decide) _ rB0 rfl (0) _ _ _) $$ [HcR0 How HaR0]
  · isplitr; · iexact HR
    isplitl [HcR0]; · iexact HcR0
    isplitl [How]; · iexact How
    isplitr; · rw [MayWait_zero]; iempintro
    iexact HaR0
  iintro ⟨How, HaR0, #Hrchd, Hp⟩
  ihave Hp := (Entails.of_eq (show payK m (kindOf (.dma recvS0.sem)) c 0 = recvPay0 m c from rfl)) $$ Hp
  unfold recvPay0
  icases Hp with ⟨%fr0a, %hr0, Hr0⟩
  sl_exec
  iapply (wp_wait_block m K c 5 recvS2.sem rfl 0 rfl (by decide) _ rB2 rfl (0) _ _ _) $$ [HcR2 How HaR2]
  · isplitr; · iexact HR
    isplitl [HcR2]; · iexact HcR2
    isplitl [How]; · iexact How
    isplitr; · rw [MayWait_zero]; iempintro
    iexact HaR2
  iintro ⟨How, HaR2, #Hrche, Hp⟩
  ihave Hp := (Entails.of_eq (show payK m (kindOf (.dma recvS2.sem)) c 0 = recvPay2 m c from rfl)) $$ Hp
  unfold recvPay2
  icases Hp with ⟨%fr2a, %hr2, Hr2⟩
  sl_exec
  iapply (wp_wait_block m K c 4 recvS1.sem rfl 0 rfl (by decide) _ rB1 rfl (0) _ _ _) $$ [HcR1 How HaR1]
  · isplitr; · iexact HR
    isplitl [HcR1]; · iexact HcR1
    isplitl [How]; · iexact How
    isplitr; · rw [MayWait_zero]; iempintro
    iexact HaR1
  iintro ⟨How, HaR1, #Hrchf, Hp⟩
  ihave Hp := (Entails.of_eq (show payK m (kindOf (.dma recvS1.sem)) c 0 = recvPay1 m c from rfl)) $$ Hp
  unfold recvPay1
  icases Hp with ⟨%fr1a, %hr1, Hr1⟩
  sl_exec
  have hblk0 : k0_pay81 (sound_body.sl.v1056 m c) (sound_body.sl.v1057 m c) (sound_body.sl.v1059 m c) = blk (xOf m c) (wOf m c) (hop c 0) :=
    (next_step (hB 7) (w_read _ _ 7 _ (off8_eq c 0) _ _ _ _ _ _ _ _) (next_step (hB 6) (w_read _ _ 6 _ (off7_eq c 0) _ _ _ _ _ _ _ _) (next_step (hB 5) (w_read _ _ 5 _ (off6_eq c 0) _ _ _ _ _ _ _ _) (next_step (hB 4) (w_read _ _ 4 _ (off5_eq c 0) _ _ _ _ _ _ _ _) (next_step (hB 3) (w_read _ _ 3 _ (off4_eq c 0) _ _ _ _ _ _ _ _) (next_step (hB 2) (w_read _ _ 2 _ (off3_eq c 0) _ _ _ _ _ _ _ _) (next_step (hB 1) (w_read _ _ 1 _ (off2_eq c 0) _ _ _ _ _ _ _ _) (first_step (hB 0) (w_read _ _ 0 _ (off1_eq c 0) _ _ _ _ _ _ _ _)))))))))
  have hout : sound_body.sl.HO_w0_2 m c fO fst fr0a fr2a fr1a = outAt m c := funext fun i => by
    refine (rows_write (hop c 2) _ (off10_eq c 1) _ _ _ _ i).trans ?_
    rw [show sound_body.sl.HO_w0_1 m c fO fst fr0a fr2a i = _ from rows_write (hop c 1) _ (off10_eq c 2) _ _ _ _ i,
      show sound_body.sl.HO_w0 m c fO fst fr0a i = _ from rows_write (hop c 3) _ (off10_eq c 0) _ _ _ _ i,
      show sound_body.sl.HO_w7 m c fO fst i = _ from rows_write c _ (k0_off9_eq c) _ _ _ _ i]
    exact rows_all c (rowsFrom m c) ((own_read _ (hblk0.trans (congrArg (blk _ _) (hop_zero c)))).trans (rowsFrom_self m c).symm) ((recv_read _ _ _ _ _ _ hr2).trans (rowsFrom_hop m c 1 (by decide)).symm)
      ((recv_read _ _ _ _ _ _ hr1).trans (rowsFrom_hop m c 2 (by decide)).symm) ((recv_read _ _ _ _ _ _ hr0).trans (rowsFrom_hop m c 3 (by decide)).symm) _ _ _
  imod (Rounds.cell_close ER (talk m) (g := barCell c) (Set.mem_univ (K (c, 0))) (fun h => h) (R := 1) (fun r hr => dutK_after (kindOf (.reg barS)) (by decide) r hr)) $$ [HaB] with HaB
  · isplitr; · iapply (inv_at m K c 0); iexact HR
    iexact HaB
  imod (Rounds.cell_close ER (talk m) (g := sendCell0 c) (Set.mem_univ (K (c, 1))) (fun h => h) (R := 2) (fun r hr => dutK_later (kindOf (.dma sendS0.sem)) r hr)) $$ [HaS0] with HaS0
  · isplitr; · iapply (inv_at m K c 1); iexact HR
    iexact HaS0
  imod (Rounds.cell_close ER (talk m) (g := sendCell1 c) (Set.mem_univ (K (c, 2))) (fun h => h) (R := 1) (fun r hr => dutK_after (kindOf (.dma sendS1.sem)) (by decide) r hr)) $$ [HaS1] with HaS1
  · isplitr; · iapply (inv_at m K c 2); iexact HR
    iexact HaS1
  imod (Rounds.cell_close ER (talk m) (g := recvCell0 c) (Set.mem_univ (K (c, 3))) (fun h => h) (R := 1) (fun r hr => dutK_after (kindOf (.dma recvS0.sem)) (by decide) r hr)) $$ [HaR0] with HaR0
  · isplitr; · iapply (inv_at m K c 3); iexact HR
    iexact HaR0
  imod (Rounds.cell_close ER (talk m) (g := recvCell1 c) (Set.mem_univ (K (c, 4))) (fun h => h) (R := 1) (fun r hr => dutK_after (kindOf (.dma recvS1.sem)) (by decide) r hr)) $$ [HaR1] with HaR1
  · isplitr; · iapply (inv_at m K c 4); iexact HR
    iexact HaR1
  imod (Rounds.cell_close ER (talk m) (g := recvCell2 c) (Set.mem_univ (K (c, 5))) (fun h => h) (R := 1) (fun r hr => dutK_after (kindOf (.dma recvS2.sem)) (by decide) r hr)) $$ [HaR2] with HaR2
  · isplitr; · iapply (inv_at m K c 5); iexact HR
    iexact HaR2
  rw [wp_ret]; imodintro
  iapply Hk
  isplitr [How]; swap
  · iexact How
  unfold bodyPost args scratch localSems talkSems
  isplitl [HX0 HX1 HW2 HW3]
  · isplitl [HX0]; · iexact HX0
    isplitl [HX1]; · iexact HX1
    isplitl [HW2]; · iexact HW2
    iexact HW3
  isplitl [HO]; · rw [← hout]; iexact HO
  isplitl [HB Hx0 Hx1 Hw0 Hw1 HwB Hst Hs0 Hs1 Hr0 Hr1 Hr2]
  · isplitl [HB]; · iexists _; iexact HB
    isplitl [Hx0]; · iexists _; iexact Hx0
    isplitl [Hx1]; · iexists _; iexact Hx1
    isplitl [Hw0]; · iexists _; iexact Hw0
    isplitl [Hw1]; · iexists _; iexact Hw1
    isplitl [HwB]; · iexists _; iexact HwB
    isplitl [Hst]; · iexists _; iexact Hst
    isplitl [Hs0]; · iexists _; iexact Hs0
    isplitl [Hs1]; · iexists _; iexact Hs1
    isplitl [Hr0]; · iexists _; iexact Hr0
    isplitl [Hr1]; · iexists _; iexact Hr1
    iexists _; iexact Hr2
  isplitl [Hq0 Hq1 Hq2 Hq3 Hq9]
  · isplitl [Hq0]; · iexact Hq0
    isplitl [Hq1]; · iexact Hq1
    isplitl [Hq2]; · iexact Hq2
    isplitl [Hq3]; · iexact Hq3
    iexact Hq9
  isplitl [HaB]; · iexact HaB
  isplitl [HaS0]; · iexact HaS0
  isplitl [HaS1]; · iexact HaS1
  isplitl [HaR0]; · iexact HaR0
  isplitl [HaR1]; · iexact HaR1
  iexact HaR2

end Cert.KernelIdeal.Hand

end
-- ==== Proof.Slots.lean ====
/-
The scratch buffers and their slots, the arguments' shares, the launch credit: what a device is handed and hands back.
-/
module

public import proofs.«01_k».proof.Proof.Run
public import Idealize.ShloMosaic.Lib.Ring

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

/-! ## A scratch buffer and its slots -/

/-- The offset of slot `b` of a buffer of slots. -/
abbrev slotOff {n : ℕ} (b : Fin n) : Fin 3 → ℕ := ![b.val, 0, 0]

theorem slotOff_rest {n : ℕ} : ∀ (b : Fin n) (a : Fin 3), a ≠ 0 → slotOff b a = 0 := fun b a ha => by
  fin_cases a
  · exact absurd rfl ha
  · rfl
  · rfl

theorem xT_inb : ∀ (b : Fin 2) (a : Fin 3), slotOff b a + S1x1024x512.size a ≤ S2x1024x512.size a := by decide
theorem wT_inb : ∀ (b : Fin 2) (a : Fin 3), slotOff b a + S1x512x2048.size a ≤ S2x512x2048.size a := by decide
theorem sB_inb : ∀ (b : Fin 2) (a : Fin 3), slotOff b a + S1x1024x2048.size a ≤ S2x1024x2048.size a := by decide
theorem rB_inb : ∀ (b : Fin 3) (a : Fin 3), slotOff b a + S1x1024x2048.size a ≤ S3x1024x2048.size a := by decide

/-- The elements of each slot. -/
def xTSlot (b : Fin 2) : Finset S2x1024x512.Idx := (Rect.unit (s := S2x1024x512) (slotOff b) S1x1024x512.size (xT_inb b)).set
def wTSlot (b : Fin 2) : Finset S2x512x2048.Idx := (Rect.unit (s := S2x512x2048) (slotOff b) S1x512x2048.size (wT_inb b)).set
def sBSlot (b : Fin 2) : Finset S2x1024x2048.Idx := (Rect.unit (s := S2x1024x2048) (slotOff b) S1x1024x2048.size (sB_inb b)).set
def rBSlot (b : Fin 3) : Finset S3x1024x2048.Idx := (Rect.unit (s := S3x1024x2048) (slotOff b) S1x1024x2048.size (rB_inb b)).set

theorem xT_apart : ∀ b b', b ≠ b' → Disjoint (xTSlot b) (xTSlot b') :=
  lead_disjoint (s := S2x1024x512) (0 : Fin 3) 1 slotOff S1x1024x512.size xT_inb (fun b => (Nat.one_mul _).symm) rfl
theorem wT_apart : ∀ b b', b ≠ b' → Disjoint (wTSlot b) (wTSlot b') :=
  lead_disjoint (s := S2x512x2048) (0 : Fin 3) 1 slotOff S1x512x2048.size wT_inb (fun b => (Nat.one_mul _).symm) rfl
theorem sB_apart : ∀ b b', b ≠ b' → Disjoint (sBSlot b) (sBSlot b') :=
  lead_disjoint (s := S2x1024x2048) (0 : Fin 3) 1 slotOff S1x1024x2048.size sB_inb (fun b => (Nat.one_mul _).symm) rfl
theorem rB_apart : ∀ b b', b ≠ b' → Disjoint (rBSlot b) (rBSlot b') :=
  lead_disjoint (s := S3x1024x2048) (0 : Fin 3) 1 slotOff S1x1024x2048.size rB_inb (fun b => (Nat.one_mul _).symm) rfl

theorem xT_all : Finset.univ.biUnion xTSlot = Finset.univ :=
  lead_cover (s := S2x1024x512) (0 : Fin 3) 1 slotOff S1x1024x512.size xT_inb (fun b => (Nat.one_mul _).symm) slotOff_rest rfl (by decide) rfl
theorem wT_all : Finset.univ.biUnion wTSlot = Finset.univ :=
  lead_cover (s := S2x512x2048) (0 : Fin 3) 1 slotOff S1x512x2048.size wT_inb (fun b => (Nat.one_mul _).symm) slotOff_rest rfl (by decide) rfl
theorem sB_all : Finset.univ.biUnion sBSlot = Finset.univ :=
  lead_cover (s := S2x1024x2048) (0 : Fin 3) 1 slotOff S1x1024x2048.size sB_inb (fun b => (Nat.one_mul _).symm) slotOff_rest rfl (by decide) rfl
theorem rB_all : Finset.univ.biUnion rBSlot = Finset.univ :=
  lead_cover (s := S3x1024x2048) (0 : Fin 3) 1 slotOff S1x1024x2048.size rB_inb (fun b => (Nat.one_mul _).symm) slotOff_rest rfl (by decide) rfl

theorem xT0_set : xT0.view.set = xTSlot 0 := (View.set_reshape (v := _) _).trans (View.set_slice_whole _ _)
theorem xT1_set : xT1.view.set = xTSlot 1 := (View.set_reshape (v := _) _).trans (View.set_slice_whole _ _)
theorem wT0_set : wT0.view.set = wTSlot 0 := (View.set_reshape (v := _) _).trans (View.set_slice_whole _ _)
theorem wT1_set : wT1.view.set = wTSlot 1 := (View.set_reshape (v := _) _).trans (View.set_slice_whole _ _)
theorem sB0_set : sB0.view.set = sBSlot 0 := (View.set_reshape (v := _) _).trans (View.set_slice_whole _ _)
theorem sB1_set : sB1.view.set = sBSlot 1 := (View.set_reshape (v := _) _).trans (View.set_slice_whole _ _)
theorem rB0_set : rB0.view.set = rBSlot 0 := (View.set_reshape (v := _) _).trans (View.set_slice_whole _ _)
theorem rB1_set : rB1.view.set = rBSlot 1 := (View.set_reshape (v := _) _).trans (View.set_slice_whole _ _)
theorem rB2_set : rB2.view.set = rBSlot 2 := (View.set_reshape (v := _) _).trans (View.set_slice_whole _ _)

/-- A slot held, said by the buffer and the slot's elements. -/
theorem pt_slot (c : Dev nD) {sp : Space} {S : Shape} {e : EltTy} (M : Memref sig .tc sp S e) (f : Bf (F := F) c M)
    (I : Finset (Idx (M.view.loc (c : Thread nD τ)))) (h : M.view.set = I) :
    pt (F := F) c M f = (M.view.loc (c : Thread nD τ) ↦[I]{fullShare} f : sProp 𝕄) := by subst h; rfl

/-- The scratch buffers whole, as the launch hands them and takes them back. -/
def buffers (c : Dev nD) : sProp 𝕄 :=
  iprop((∃ f, whole (F := F) c xB f) ∗ (∃ f, whole (F := F) c xT f) ∗ (∃ f, whole (F := F) c wT f) ∗ (∃ f, whole (F := F) c wB f)
    ∗ (∃ f, whole (F := F) c st f) ∗ (∃ f, whole (F := F) c sB f) ∗ (∃ f, whole (F := F) c rB f))

theorem cut_scratch (c : Dev nD) : buffers (F := F) c ⊢ scratch (F := F) c := by
  unfold buffers scratch
  iintro ⟨H0, H1, H2, H3, H4, H5, H6⟩
  ihave H1 := (slots2_split xTSlot xT_apart xT_all (pt (F := F) c xT0) (pt (F := F) c xT1) (fun f => pt_slot c xT0 f _ xT0_set) (fun f => pt_slot c xT1 f _ xT1_set)) $$ H1
  icases H1 with ⟨H1a, H1b⟩
  ihave H2 := (slots2_split wTSlot wT_apart wT_all (pt (F := F) c wT0) (pt (F := F) c wT1) (fun f => pt_slot c wT0 f _ wT0_set) (fun f => pt_slot c wT1 f _ wT1_set)) $$ H2
  icases H2 with ⟨H2a, H2b⟩
  ihave H5 := (slots2_split sBSlot sB_apart sB_all (pt (F := F) c sB0) (pt (F := F) c sB1) (fun f => pt_slot c sB0 f _ sB0_set) (fun f => pt_slot c sB1 f _ sB1_set)) $$ H5
  icases H5 with ⟨H5a, H5b⟩
  ihave H6 := (slots3_split rBSlot rB_apart rB_all (pt (F := F) c rB0) (pt (F := F) c rB1) (pt (F := F) c rB2)
    (fun f => pt_slot c rB0 f _ rB0_set) (fun f => pt_slot c rB1 f _ rB1_set) (fun f => pt_slot c rB2 f _ rB2_set)) $$ H6
  icases H6 with ⟨H6a, H6b, H6c⟩
  isplitl [H0]; · iexact H0
  isplitl [H1a]; · iexact H1a
  isplitl [H1b]; · iexact H1b
  isplitl [H2a]; · iexact H2a
  isplitl [H2b]; · iexact H2b
  isplitl [H3]; · iexact H3
  isplitl [H4]; · iexact H4
  isplitl [H5a]; · iexact H5a
  isplitl [H5b]; · iexact H5b
  isplitl [H6a]; · iexact H6a
  isplitl [H6b]; · iexact H6b
  iexact H6c

theorem join_scratch (c : Dev nD) : scratch (F := F) c ⊢ buffers (F := F) c := by
  unfold buffers scratch
  iintro ⟨H0, H1a, H1b, H2a, H2b, H3, H4, H5a, H5b, H6a, H6b, H6c⟩
  ihave H1 := (slots2_join xTSlot xT_apart xT_all (pt (F := F) c xT0) (pt (F := F) c xT1) (fun f => pt_slot c xT0 f _ xT0_set) (fun f => pt_slot c xT1 f _ xT1_set)) $$ [H1a H1b]
  · isplitl [H1a]; · iexact H1a
    iexact H1b
  ihave H2 := (slots2_join wTSlot wT_apart wT_all (pt (F := F) c wT0) (pt (F := F) c wT1) (fun f => pt_slot c wT0 f _ wT0_set) (fun f => pt_slot c wT1 f _ wT1_set)) $$ [H2a H2b]
  · isplitl [H2a]; · iexact H2a
    iexact H2b
  ihave H5 := (slots2_join sBSlot sB_apart sB_all (pt (F := F) c sB0) (pt (F := F) c sB1) (fun f => pt_slot c sB0 f _ sB0_set) (fun f => pt_slot c sB1 f _ sB1_set)) $$ [H5a H5b]
  · isplitl [H5a]; · iexact H5a
    iexact H5b
  ihave H6 := (slots3_join rBSlot rB_apart rB_all (pt (F := F) c rB0) (pt (F := F) c rB1) (pt (F := F) c rB2)
    (fun f => pt_slot c rB0 f _ rB0_set) (fun f => pt_slot c rB1 f _ rB1_set) (fun f => pt_slot c rB2 f _ rB2_set)) $$ [H6a H6b H6c]
  · isplitl [H6a]; · iexact H6a
    isplitl [H6b]; · iexact H6b
    iexact H6c
  isplitl [H0]; · iexact H0
  isplitl [H1]; · iexact H1
  isplitl [H2]; · iexact H2
  isplitl [H3]; · iexact H3
  isplitl [H4]; · iexact H4
  isplitl [H5]; · iexact H5
  iexact H6

/-! ## The arguments, lent and read back -/

variable (m : (ℓ : Loc nD τ sig) → Buf (Elt F) ℓ)

omit [FloatOps F] in
theorem two_parts (Φ : Fin 2 → sProp 𝕄) : bigSep Finset.univ Φ = iprop(Φ 0 ∗ Φ 1) := bigSep_univ_eq_bigSepL [0, 1] (by decide) (by decide) Φ
omit [FloatOps F] in
theorem four_parts (Φ : Fin 4 → sProp 𝕄) : bigSep Finset.univ Φ = iprop(Φ 0 ∗ Φ 1 ∗ Φ 2 ∗ Φ 3) := bigSep_univ_eq_bigSepL [0, 1, 2, 3] (by decide) (by decide) Φ

/-- The shares the transfers in flight take of the two arguments. -/
theorem cut_args (c : Dev nD) :
    iprop((((c : Thread nD τ).loc main_arg0) ↦{fullShare} m ((c : Thread nD τ).loc main_arg0)) ∗ (((c : Thread nD τ).loc main_arg1) ↦{fullShare} m ((c : Thread nD τ).loc main_arg1)))
      ⊢ args (F := F) m c := by
  unfold args
  iintro ⟨Hx, Hw⟩
  ihave Hx := (Transfers.pointsTo_toks_split fullShare 2) $$ Hx
  ihave Hw := (Transfers.pointsTo_toks_split fullShare 4) $$ Hw
  icases Hx with ⟨-, Hx⟩
  icases Hw with ⟨-, Hw⟩
  ihave Hx := (Entails.of_eq (two_parts _)) $$ Hx
  ihave Hw := (Entails.of_eq (four_parts _)) $$ Hw
  icases Hx with ⟨Hx0, Hx1⟩
  icases Hw with ⟨-, -, Hw2, Hw3⟩
  isplitl [Hx0]; · iexact Hx0
  isplitl [Hx1]; · iexact Hx1
  isplitl [Hw2]; · iexact Hw2
  iexact Hw3

/-- The memory at the end, read off what the device still holds of it. -/
theorem read_end (c : Dev nD) (s : Phys nD τ sig (Elt F)) :
    iprop(args (F := F) m c ∗ whole (F := F) c aO (outAt m c) ∗ SI s)
      ⊢ iprop(⌜s.mem.mem ((c : Thread nD τ).loc main_v1) = outAt m c ∧ s.mem.mem ((c : Thread nD τ).loc main_arg0) = m ((c : Thread nD τ).loc main_arg0)
          ∧ s.mem.mem ((c : Thread nD τ).loc main_arg1) = m ((c : Thread nD τ).loc main_arg1)⌝ ∗ SI s) := by
  unfold args
  iintro ⟨⟨Hx, -, Hw, -⟩, Ho, HS⟩
  icombine HS Hx gives %hx
  icombine HS Hw gives %hw
  icombine HS Ho gives %ho
  isplitr
  · ipureintro
    exact ⟨Buf.eq_of_forall_mem_univ ho, Buf.eq_of_forall_mem_univ hx, Buf.eq_of_forall_mem_univ hw⟩
  · iexact HS

/-! ## The credit each device is launched with -/

omit [FloatOps F] in
/-- When every device owes `n` to the device `o` places after it, each is owed `n`. -/
theorem hop_credit (k : Fin 6) (o : ℕ) (ho : o ≤ 4) (n : ℕ) (c : Dev nD) :
    (Pipeline.launchCred (fun d => tallyAt (kcell (hop d o, k)) () n) c : sProp 𝕄) ⊢ cred (tallyAt (kcell (c, k)) () n) := by
  refine (Pipeline.launchCred_elim _ c (csem k)).trans (Entails.of_eq (congrArg cred ?_))
  show tallyOn (kcell (c, k)) _ = tallyOn (kcell (c, k)) (Finsupp.single () n)
  refine congrArg _ (Finsupp.ext fun u => ?_); cases u
  rw [Pipeline.launchCredit_owing, Finsupp.single_eq_same, Finset.sum_eq_single (hop c (4 - o))]
  · show tallyAt (kcell (hop (hop c (4 - o)) o, k)) () n (kcell (c, k)) () = n
    rw [hop_hop, Nat.sub_add_cancel ho, hop_four, tallyAt_apply, if_pos ⟨rfl, rfl⟩]
  · intro d _ hd
    rw [tallyAt_apply, if_neg]
    rintro ⟨h, -⟩
    have h' : c = hop d o := congrArg (fun g : GSem nD τ sig => g.1.1) h
    exact hd (by rw [h', hop_hop, Nat.add_sub_cancel' ho, hop_four])
  · intro h; exact absurd (Finset.mem_univ _) h

omit [FloatOps F] in
theorem launch_creds (c : Dev nD) : (Pipeline.launchCred O₀ c : sProp 𝕄) ⊢ creds (F := F) c := by
  have e : (O₀ : Dev nD → CellTallies nD τ sig Unit) = fun d => ((((tallyAt (kcell (hop d 2, 4)) () N + tallyAt (kcell (hop d 3, 5)) () N) + tallyAt (kcell (hop d 1, 3)) () N)
      + tallyAt (kcell (hop d 3, 0)) () 1) + tallyAt (kcell (hop d 2, 0)) () 1) + tallyAt (kcell (hop d 1, 0)) () 1 := rfl
  rw [e, Pipeline.launchCred_add, Pipeline.launchCred_add, Pipeline.launchCred_add, Pipeline.launchCred_add, Pipeline.launchCred_add]
  unfold creds
  iintro ⟨⟨⟨⟨⟨H4, H5⟩, H3⟩, Hb3⟩, Hb2⟩, Hb1⟩
  ihave H4 := (hop_credit (F := F) 4 2 (by decide) N c) $$ H4
  ihave H5 := (hop_credit (F := F) 5 3 (by decide) N c) $$ H5
  ihave H3 := (hop_credit (F := F) 3 1 (by decide) N c) $$ H3
  ihave Hb3 := (hop_credit (F := F) 0 3 (by decide) 1 c) $$ Hb3
  ihave Hb2 := (hop_credit (F := F) 0 2 (by decide) 1 c) $$ Hb2
  ihave Hb1 := (hop_credit (F := F) 0 1 (by decide) 1 c) $$ Hb1
  isplitl [Hb1 Hb2 Hb3]
  · rw [show (tallyAt (barCell c) () 3 : CellTallies nD τ sig Unit) = tallyAt (kcell (c, 0)) () 1 + (tallyAt (kcell (c, 0)) () 1 + tallyAt (kcell (c, 0)) () 1) by
      rw [tallyAt_add, tallyAt_add]]
    iapply (cred_add _ _).2
    isplitl [Hb1]; · iexact Hb1
    iapply (cred_add _ _).2
    isplitl [Hb2]; · iexact Hb2
    iexact Hb3
  isplitl [H3]; · iexact H3
  isplitl [H4]; · iexact H4
  iexact H5

end Cert.KernelIdeal.Hand

end
-- ==== Proof.Launch.lean ====
/-
The launch: the conversation's cells funded, each device's share of it dealt, and the run of the whole program.
-/
module

public import proofs.«01_k».proof.Proof.Slots
public import Idealize.ShloMosaic.Lib.Pipeline.CollectiveSegs

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the launch starts from -/

/-- The kernel's own semaphores: its ten of transfers. -/
abbrev osem : Fin 10 → SemLoc sig := fun k => .dma k

theorem ownSemFacts : Pipeline.OwnSemFacts cfg0.spec osem := by decide

theorem kcell_injective : Function.Injective (kcell : Dev nD × Fin 6 → GSem nD τ sig) := by
  rintro ⟨c, k⟩ ⟨c', k'⟩ h
  have h1 : c = c' := congrArg (fun g : GSem nD τ sig => g.1.1) h
  have h2 : csem k = csem k' := congrArg Prod.snd h
  exact Prod.ext h1 ((show Function.Injective csem by decide) h2)

/-- The cells of the conversation. -/
def talkCells : Finset (GSem nD τ sig) := Finset.univ.map ⟨kcell, kcell_injective⟩

/-- The nine duties paid into one device's cells: which cell, in which round, which duty of it, and how many places
    before that device the payer stands. -/
def tokCell : Fin 9 → Fin 6 := ![0, 0, 0, 1, 1, 2, 3, 4, 5]
def tokRound : Fin 9 → ℕ := ![0, 0, 0, 0, 1, 0, 0, 0, 0]
def tokDuty : Fin 9 → Fin 4 := ![1, 2, 3, 0, 0, 0, 0, 0, 0]
def tokHop : Fin 9 → ℕ := ![1, 2, 3, 0, 0, 0, 1, 2, 3]

def tokOf (cj : Dev nD × Fin 9) : GSem nD τ sig × ℕ × Fin 4 := (kcell (cj.1, tokCell cj.2), tokRound cj.2, tokDuty cj.2)

theorem tokOf_injective : Function.Injective (tokOf : Dev nD × Fin 9 → GSem nD τ sig × ℕ × Fin 4) := by
  rintro ⟨c, j⟩ ⟨c', j'⟩ h
  have h1 : (c, tokCell j) = (c', tokCell j') := kcell_injective (congrArg Prod.fst h)
  have h2 : (tokCell j, tokRound j, tokDuty j) = (tokCell j', tokRound j', tokDuty j') :=
    Prod.ext (congrArg Prod.snd h1) (congrArg (fun x : GSem nD τ sig × ℕ × Fin 4 => x.2) h)
  exact Prod.ext (congrArg (fun x : Dev nD × Fin 6 => x.1) h1) ((show Function.Injective fun j => (tokCell j, tokRound j, tokDuty j) by decide) h2)

def talkToks : Finset (GSem nD τ sig × ℕ × Fin 4) := Finset.univ.map ⟨tokOf, tokOf_injective⟩

def u₀ : UU := (initOf (Pipeline.cells cfgs cellOf_inj) (Pipeline.launchToks cfgs cellOf_inj), (initOf talkCells talkToks, 1))

/-- The tokens of the duties paid into `c`'s cells. -/
def toks (c : Dev nD) : sProp 𝕄 := bigSep Finset.univ fun j : Fin 9 => dutyTok ER (tokOf (c, j)).1 (tokOf (c, j)).2.1 (tokOf (c, j)).2.2

/-- What the launch deals device `c`; -/
def G (c : Dev nD) : sProp 𝕄 :=
  iprop((bigSep Finset.univ fun k : Fin 6 => roundState ER (talk m) (kcell (c, k)) 0)
    ∗ (bigSep Finset.univ fun k : Fin 6 => iprop(atPos ER (kcell (c, k)) 0 ∅ 0 ∗ reached ER (kcell (c, k)) 0)) ∗ toks (F := F) c)

/-- and what becomes of it when every device's semaphores are put under the conversation's invariants. -/
def G' (c : Dev nD) : sProp 𝕄 := iprop(∃ K, records m K ∗ localSems (F := F) c ∗ places (F := F) c ∗ payToks (F := F) c)

omit [FloatOps F] in
theorem six_parts (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
theorem nine_parts (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_talk : BI.own (ER (initOf talkCells talkToks)) ⊢ (|==> bigSep Finset.univ (G m) : sProp 𝕄) := by
  have hX (Φ : GSem nD τ sig → sProp 𝕄) : bigSep talkCells Φ = bigSep Finset.univ fun c : Dev nD => bigSep Finset.univ fun k : Fin 6 => Φ (kcell (c, k)) := by
    unfold talkCells; rw [bigSep_map, bigSep_univ_prod]; rfl
  have hT : bigSep talkToks (fun x => (dutyTok ER x.1 x.2.1 x.2.2 : sProp 𝕄)) = bigSep Finset.univ fun c : Dev nD => toks (F := F) c := by
    unfold talkToks; rw [bigSep_map, bigSep_univ_prod]; rfl
  iintro HX
  imod (Rounds.fund ER (talk m) talkCells talkToks) $$ HX with ⟨Hst, Hr, Hat, Htok⟩
  imodintro
  ihave Hst' := (Entails.of_eq (hX fun g => roundState ER (talk m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal ((c : Thread nD τ), osem 0) 0 ∗ semVal ((c : Thread nD τ), osem 1) 0 ∗ semVal ((c : Thread nD τ), osem 2) 0
        ∗ semVal ((c : Thread nD τ), osem 3) 0 ∗ semVal ((c : Thread nD τ), osem 4) 0 ∗ semVal ((c : Thread nD τ), osem 5) 0
        ∗ semVal ((c : Thread nD τ), osem 6) 0 ∗ semVal ((c : Thread nD τ), osem 7) 0 ∗ semVal ((c : Thread nD τ), osem 8) 0 ∗ semVal ((c : Thread nD τ), osem 9) 0) := by
  rw [Pipeline.ownSems0_eq_of_list c osem [0, 1, 2, 3, 4, 5, 6, 7, 8, 9] (by decide) (by decide)]; rfl
omit [FloatOps F] in
/-- The barrier semaphore is the one that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's semaphores at zero: those of its own transfers and those of the conversation. -/
theorem sems_split (c : Dev nD) :
    iprop(Pipeline.ownSems0 (Ix := Unit) (Name := ℕ) (U := UU) (Lvl := ℕ) (Val := Elt F) (τ := τ) osem c ∗ unscopedSems0 c)
      ⊢ (iprop(localSems (F := F) c ∗ talkSems (F := F) c) : sProp 𝕄) := by
  rw [ownSems0_eq, unscopedSems0_eq]; unfold localSems talkSems
  iintro ⟨⟨H0, H1, H2, H3, H4, H5, H6, H7, H8, H9⟩, HB⟩
  isplitl [H0 H1 H2 H3 H9]
  · isplitl [H0]; · iexact H0
    isplitl [H1]; · iexact H1
    isplitl [H2]; · iexact H2
    isplitl [H3]; · iexact H3
    iexact H9
  isplitl [HB]; · iexact HB
  isplitl [H4]; · iexact H4
  isplitl [H5]; · iexact H5
  isplitl [H6]; · iexact H6
  isplitl [H7]; · iexact H7
  iexact H8
omit [FloatOps F] in
theorem sems_join (c : Dev nD) :
    (iprop(localSems (F := F) c ∗ talkSems (F := F) c) : sProp 𝕄)
      ⊢ iprop(Pipeline.ownSems0 (Ix := Unit) (Name := ℕ) (U := UU) (Lvl := ℕ) (Val := Elt F) (τ := τ) osem c ∗ unscopedSems0 c) := by
  rw [ownSems0_eq, unscopedSems0_eq]; unfold localSems talkSems
  iintro ⟨⟨H0, H1, H2, H3, H9⟩, HB, H4, H5, H6, H7, H8⟩
  isplitr [HB]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact HB

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (talk m) κ (kcell (c, k))))
          ∗ (bigSep Finset.univ fun k => iprop(atPos ER (kcell (c, k)) 0 ∅ 0 ∗ reached ER (kcell (c, k)) 0)) ∗ iprop(localSems (F := F) c ∗ toks (F := F) c)) := by
  unfold G
  iintro ⟨Hos, Hus, Hst, Hat, Htok⟩
  ihave Hv := (sems_split (F := F) c) $$ [Hos Hus]
  · isplitl [Hos] <;> iassumption
  icases Hv with ⟨Hl, Hv⟩
  ihave Hv := (show talkSems (F := F) c ⊢ bigSep Finset.univ fun k : Fin 6 => (semVal (kcell (c, k)) 0 : sProp 𝕄) by
    rw [six_parts]; exact Entails.of_eq rfl) $$ Hv
  imod (show iprop((bigSep Finset.univ fun k : Fin 6 => semVal (kcell (c, k)) 0) ∗ bigSep Finset.univ fun k : Fin 6 => roundState ER (talk m) (kcell (c, k)) 0)
      ⊢ (|={Set.univ}=> bigSep Finset.univ fun k => iprop(∃ κ : ℕ, cellInv ER (talk m) κ (kcell (c, k))) : sProp 𝕄) from by
        rw [← bigSep_sep']
        exact (bigSep_mono fun k _ => (Rounds.body_intro ER (talk m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hl]; · iexact Hl
  iexact Htok

/-- Each token goes to the device that pays its duty. -/
def payer : Dev nD × Fin 9 ≃ Dev nD × Fin 9 where
  toFun cj := (hop cj.1 (tokHop cj.2), cj.2)
  invFun cj := (hop cj.1 (4 - tokHop cj.2), cj.2)
  left_inv := by decide
  right_inv := by decide

omit [FloatOps F] in
theorem toks_around : (bigSep Finset.univ fun c : Dev nD => (toks (F := F) c : sProp 𝕄)) ⊢ bigSep Finset.univ fun c : Dev nD => payToks (F := F) c := by
  unfold toks
  rw [← bigSep_univ_prod (fun cj : Dev nD × Fin 9 => (dutyTok ER (tokOf cj).1 (tokOf cj).2.1 (tokOf cj).2.2 : sProp 𝕄)),
    bigSep_univ_equiv payer (fun cj : Dev nD × Fin 9 => (dutyTok ER (tokOf cj).1 (tokOf cj).2.1 (tokOf cj).2.2 : sProp 𝕄)), bigSep_univ_prod]
  refine bigSep_mono fun c _ => ?_
  rw [nine_parts]
  have e : (iprop(dutyTok ER (barCell (hop c 1)) 0 1 ∗ dutyTok ER (barCell (hop c 2)) 0 2 ∗ dutyTok ER (barCell (hop c 3)) 0 3
    ∗ dutyTok ER (sendCell0 (hop c 0)) 0 0 ∗ dutyTok ER (sendCell0 (hop c 0)) 1 0 ∗ dutyTok ER (sendCell1 (hop c 0)) 0 0
    ∗ dutyTok ER (recvCell0 (hop c 1)) 0 0 ∗ dutyTok ER (recvCell1 (hop c 2)) 0 0 ∗ dutyTok ER (recvCell2 (hop c 3)) 0 0) : sProp 𝕄) = payToks c := by unfold payToks; rw [hop_zero]
  exact Entails.of_eq e

omit [FloatOps F] in
theorem all_places : (bigSep Finset.univ fun c : Dev nD => bigSep Finset.univ fun k : Fin 6 => (atPos ER (kcell (c, k)) 0 ∅ 0 : sProp 𝕄))
    ⊢ bigSep Finset.univ fun c : Dev nD => places (F := F) c :=
  bigSep_mono fun c _ => Entails.of_eq ((six_parts _).trans rfl)

/-- What stays with device `c`. -/
def linear (c : Dev nD) : sProp 𝕄 := iprop(localSems (F := F) c ∗ places (F := F) c ∗ payToks (F := F) c)

theorem deal (K : Dev nD × Fin 6 → ℕ) (c : Dev nD) : iprop(records m K ∗ linear (F := F) c) ⊢ G' m c := by
  unfold linear G'
  iintro ⟨HR, H⟩
  iexists K
  isplitl [HR]; · iexact HR
  iexact H

omit [FloatOps F] in
theorem bigSep_with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (talk m) κ (kcell (c, k))))
          ∗ (bigSep Finset.univ fun k => iprop(atPos ER (kcell (c, k)) 0 ∅ 0 ∗ reached ER (kcell (c, k)) 0)) ∗ iprop(localSems (F := F) c ∗ toks (F := F) c)) : sProp 𝕄)
      ⊢ bigSep Finset.univ (G' m) := by
  rw [bigSep_sep', bigSep_sep', bigSep_sep', ← bigSep_univ_prod (fun ck : Dev nD × Fin 6 => iprop(∃ κ : ℕ, cellInv ER (talk m) κ (kcell ck))),
    bigSep_congr (s := Finset.univ) (fun (c : Dev nD) _ => bigSep_sep' Finset.univ (fun k : Fin 6 => (atPos ER (kcell (c, k)) 0 ∅ 0 : sProp 𝕄)) (fun k => reached ER (kcell (c, k)) 0)),
    bigSep_sep', ← bigSep_univ_prod (fun ck : Dev nD × Fin 6 => (reached ER (kcell ck) 0 : sProp 𝕄))]
  iintro ⟨HI, ⟨Hat, #HR⟩, Hl, Htok⟩
  ihave HK := (BI.bigSep_exists_pi Finset.univ (fun (ck : Dev nD × Fin 6) (κ : ℕ) => (cellInv ER (talk m) κ (kcell ck) : sProp 𝕄))) $$ HI
  icases HK with ⟨%K, #HI⟩
  ihave Htk := (toks_around (F := F)) $$ Htok
  iapply (bigSep_with_known (R := records m K) fun c _ => deal m K c)
  isplitr
  · unfold records; isplitl; · iexact HI
    iexact HR
  · unfold linear; rw [bigSep_sep', bigSep_sep']
    isplitl [Hl]; · iexact Hl
    isplitl [Hat]
    · iapply (all_places (F := F))
      iexact Hat
    iexact Htk

/-- Every device's semaphores put under the conversation's invariants at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The kernel's data and its body -/

/-- What the kernel starts from besides its scratch memory. -/
def start (c : Dev nD) : sProp 𝕄 := iprop(G' m c ∗ creds (F := F) c ∗ levAts L lv ∗ args (F := F) m c ∗ ∃ f, whole (F := F) c aO f)

def dats (_ : Fin 1) (c : Dev nD) : Dat τ (Elt F) Unit ℕ UU ℕ cfg0 c where
  A w := w.elim0
  after w := w.elim0
  Φ t := match t with
    | ⟨0, _⟩ => iprop(start m c ∗ scratch (F := F) c)
    | ⟨_ + 1, _⟩ => bodyPost m c
  q w := w.elim0
  owed t := match t with
    | ⟨0, _⟩ => O₀ c
    | ⟨_ + 1, _⟩ => 0

omit [FloatOps F] in
theorem no_windows (Φ : Fin 0 → sProp 𝕄) : bigSep Finset.univ Φ = (BI.emp : sProp 𝕄) := bigSep_univ_eq_bigSepL [] (by decide) (by decide) Φ

set_option maxRecDepth 8000 in
theorem body_obligation (c : Dev nD) : BodyObligation (dats (F := F) m 0 c) (defs₀ (F := F)) Variants.none () Set.univ := fun t => by
  rw [fin_N0 t]
  rw [no_windows, no_windows]
  rw [show (dats (F := F) m 0 c).Φ t0_0.castSucc = iprop(start m c ∗ scratch (F := F) c) from rfl, show (dats (F := F) m 0 c).Φ t0_0.succ = bodyPost m c from rfl]
  unfold start G' Dat.owesAt Pipeline.owesWithin
  iintro ⟨⟨⟨⟨%K, HR, Hl, Hp, Ht⟩, Hc, Hlev, Ha, Ho⟩, Hs⟩, ⟨%W, -, HO⟩, -⟩
  iapply (sound_body m K c W _)
  isplitl
  · isplitl [HR]; · iexact HR
    isplitl [Hlev]; · iexact Hlev
    isplitl [Ht]; · iexact Ht
    isplitl [Hp]; · iexact Hp
    isplitl [Hc]; · iexact Hc
    isplitl [Ha]; · iexact Ha
    isplitl [Ho]; · iexact Ho
    isplitl [Hs]; · iexact Hs
    isplitl [Hl]; · iexact Hl
    iexact HO
  iintro %W' ⟨HP, HO⟩
  isplitl [HP]; · iexact HP
  isplitl [HO]
  · iexists W'; isplitr; · ipureintro; exact fun _ _ => Or.inl trivial
    iexact HO
  iempintro

/-! ## The run -/

/-- What a device is left with that the end of the run is read off. -/
def left (c : Dev nD) : sProp 𝕄 := iprop((args (F := F) m c ∗ whole (F := F) c aO (outAt m c)) ∗ unscopedSems0 c)

omit [FloatOps F] in
theorem scoped_eq (c : Dev nD) : (Pipeline.scopedRest (Ix := Unit) (Name := ℕ) (U := UU) (Lvl := ℕ) (Val := Elt F) cfg0.spec c : sProp 𝕄) = buffers (F := F) c :=
  scopedRest0_eq c

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Hw, Ho⟩, Hlev, Hcr, -, HG⟩
  ihave Hc := (launch_creds (F := F) c) $$ Hcr
  ihave Ha := (cut_args m c) $$ [Hx Hw]
  · isplitl [Hx]; · iexact Hx
    iexact Hw
  imodintro
  unfold start
  isplitl
  · isplitl [HG]; · iexact HG
    isplitl [Hc]; · iexact Hc
    isplitl [Hlev]; · iexact Hlev
    isplitl [Ha]; · iexact Ha
    iexists _; iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch (F := F) c) from rfl, scoped_eq]
  iintro ⟨Hs, -, Hb⟩
  isplitl [Hs]; · iexact Hs
  iapply (cut_scratch (F := F) c); iexact Hb

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = bodyPost m c from rfl, scoped_eq]
  unfold bodyPost left
  iintro ⟨Ha, Ho, Hs, Hl, Ht⟩
  ihave Hb := (join_scratch (F := F) c) $$ Hs
  ihave Hv := (sems_join (F := F) c) $$ [Hl Ht]
  · isplitl [Hl]; · iexact Hl
    iexact Ht
  icases Hv with ⟨Hos, Hus⟩
  isplitl [Ha Ho Hus]
  · isplitr [Hus]
    · isplitl [Ha]; · iexact Ha
      iexact Ho
    iexact Hus
  isplitl [Hos]; · iexact Hos
  iexact Hb

theorem waits (c : Dev nD) : (levAts L lv : sProp 𝕄) ⊢ Pipeline.cellsWaits cfgs (dats m) () 0 c :=
  Pipeline.cellsWaits_intro cfgs (dats m) () 0 c fun w => w.elim0

/-- What is so of device `c` at the end. -/
def Ends (c : Dev nD) (s : MemSt nD τ sig (Elt F)) : Prop :=
  s.mem ((c : Thread nD τ).loc main_v1) = outAt m c ∧ s.mem ((c : Thread nD τ).loc main_arg0) = m ((c : Thread nD τ).loc main_arg0)
    ∧ s.mem ((c : Thread nD τ).loc main_arg1) = m ((c : Thread nD τ).loc main_arg1)

theorem read_left (c : Dev nD) (s : Phys nD τ sig (Elt F)) :
    iprop(left m c ∗ iprop(emp) ∗ SI s)
      ⊢ |={Set.univ}=> iprop(⌜Ends m c s.mem ∧ ∀ sm : SemLoc sig, sm.isScoped .tc = false → s.mem.sem ((c.tc : Thread nD τ), sm) = 0⌝ ∗ SI s) := by
  unfold left
  iintro ⟨⟨⟨Ha, Ho⟩, Hu⟩, -, HS⟩
  ihave H := (read_end m c s) $$ [Ha Ho HS]
  · isplitl [Ha]; · iexact Ha
    isplitl [Ho]; · iexact Ho
    iexact HS
  icases H with ⟨%hm, HS⟩
  imod (Pipeline.unscopedSems0_read (X := unscopedSems0 c) (c := c) fupd_intro s) $$ [Hu HS] with ⟨%hs, HS⟩
  · isplitl [Hu] <;> iassumption
  imodintro
  isplitr; · ipureintro; exact ⟨hm, hs⟩
  iexact HS

set_option maxRecDepth 8000 in
/-- For any float values, from any memory with zero counters: the four kernels run to the end, each device's result holds
    what `outAt` says, its arguments are unchanged, and every semaphore counter is zero. -/
theorem run_main (ρ : Dev nD → PrngReg) :
    θ_run defs (onTc (τ := τ) (main (F := F))) ⟨m, fun _ => 0, ρ⟩ (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun _ => rfl)
    (hbody := fun c => (body_obligation m c).loose) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (show BI.own (embR (initOf talkCells talkToks, 1)) ⊢ (|==> bigSep Finset.univ (G m) : sProp 𝕄) from fund_talk m) $$ HX with HG
      imodintro
      isplitl [HP] <;> iassumption)
    (hglob := glob m)
    (hA := fun _ w => w.elim0) (hpf := fun _ k => k.elim0)
    (X := start m) (Y := left m) (Z := fun _ => iprop(emp))
    (hX := start_intro m ρ) (hin := phi0_intro m) (hout := phi1_exit m)
    (QY := fun c s => Ends m c s ∧ ∀ sm : SemLoc sig, sm.isScoped .tc = false → s.sem ((c.tc : Thread nD τ), sm) = 0)
    (hY := read_left m)
    (hQ := fun _ h hs => ⟨fun c => (h c).2.2.1, sem_eq_zero hs fun c => (h c).2.2.2⟩)

end Cert.KernelIdeal.Hand

end
-- ==== Proof.Match.lean ====
/-
The kernel's result and the reference's, index by index.
-/
module

public import proofs.«01_k».proof.Proof.Value
public import proofs.«01_k».proof.Proof.Launch
public import proofs.«01_k».proof.Proof.Gen.ReferenceIdeal.Run
public import proofs.«01_k».proof.Defs

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The reference at an index -/

abbrev RX : Type := (Cert.ReferenceIdeal.main_arg0 : Ref Cert.ReferenceIdeal.sig .tc).ty.Contents (Elt Ideal)
abbrev RW : Type := (Cert.ReferenceIdeal.main_arg1 : Ref Cert.ReferenceIdeal.sig .tc).ty.Contents (Elt Ideal)

/-- An entry of the whole x. -/
abbrev gEnt (X : RX) (i : Fin 4096) (k : Fin 4096) : EReal := (show Cert.ReferenceIdeal.S4096x4096.Idx → EReal from X) (ix2 i k)

/-- What the reference computes of the whole arrays. -/
def refOut (X : FVec Ideal Cert.ReferenceIdeal.S4096x4096 .f32) (W : FVec Ideal Cert.ReferenceIdeal.S4096x8192 .f32) : FVec Ideal Cert.ReferenceIdeal.S4096x8192 .f32 :=
  let y := Host.dotGeneral Cert.ReferenceIdeal.dot_S4096x4096_S4096x8192_S4096x8192_1_0_0_1_n_n none X W
  let b := fun z => broadcastInDim Cert.ReferenceIdeal.S4096x8192 ![] Cert.ReferenceIdeal.Gen.bcast_S_S4096x8192 (constant Cert.ReferenceIdeal.S_ .f32 z)
  Host.divf y (addf (b 0x3F800000#32) (Host.exp (Host.negf (minimumf (b 0x42700000#32) (maximumf (b 0xC2700000#32) y)))))

theorem refOut_apply (X : RX) (W : RW) (i : Fin 4096) (l : Fin 8192) :
    refOut X W (ix2 i l) = gate (∑ k : Fin 4096, gEnt X i k * wEnt W k l) := by
  unfold refOut gate
  rw [← ofBits_sixty, ← ofBits_neg_sixty]
  pointwise

/-! ## The precondition at an index -/

/-- A comparison that comes out one holds. -/
theorem le_of_cmp (a b : EReal) (h : Ideal.cmp .ole a b = 1#1) : a ≤ b := by
  by_contra hn
  simp [Ideal.cmp, hn] at h

/-- Under the precondition every entry of a device's part of the product lies within the clip. -/
theorem pre_apply [Cert.Pre_within_clip_KernelIdeal.Facts] (X : XC Ideal) (W : WC Ideal) (r : Fin 1024) (l : Fin 8192)
    (h : Cert.Pre_within_clip_KernelIdeal.fn (F := Ideal) X W = fun _ => 1#1) :
    max (∑ k : Fin 4096, xEnt X r k * wEnt W k l) (-(∑ k : Fin 4096, xEnt X r k * wEnt W k l)) ≤ ((60 : ℝ) : EReal) := by
  have e := congrFun h (ix2 r l)
  unfold Cert.Pre_within_clip_KernelIdeal.fn at e
  rw [← ofBits_sixty]
  pointwise at e
  exact le_of_cmp _ _ e

/-! ## The two results -/

variable (m : (ℓ : Loc nD τ sig) → Buf (Elt Ideal) ℓ)

theorem tiles_x : Layout.Tiles ⟨2, ![1024, 4096]⟩ ⟨2, ![4096, 4096]⟩ 0 4 := by decide
theorem tiles_out : Layout.Tiles ⟨2, ![4096, 2048]⟩ ⟨2, ![4096, 8192]⟩ 1 4 := by decide

/-- If the devices hold the blocks of `X` and the whole of `W`, and the precondition holds of them, then device `c`'s
    result is its block of columns of the reference's. -/
theorem outAt_eq [Cert.Pre_within_clip_KernelIdeal.Facts] (X : RX) (W : RW)
    (hp : ∀ c : Dev nD, Cert.Pre_within_clip_KernelIdeal.fn (F := Ideal) (xOf m c) (wOf m c) = fun _ => 1#1)
    (hX : ∀ c : Dev nD, xOf m c = Layout.block ⟨2, ![1024, 4096]⟩ ⟨2, ![4096, 4096]⟩ 0 4 c X tiles_x)
    (hW : ∀ c : Dev nD, wOf m c = W) (c : Dev nD) :
    outAt m c = Layout.block ⟨2, ![4096, 2048]⟩ ⟨2, ![4096, 8192]⟩ 1 4 c (refOut X W) tiles_out := by
  funext i
  have h0 : (i 0).val < 4096 := (i 0).isLt
  have h1 : (i 1).val < 2048 := (i 1).isLt
  have hr : rowIdx i = ix2 ⟨(i 0).val % 1024, Nat.mod_lt _ (by decide)⟩ ⟨(i 1).val, h1⟩ :=
    funext fun a => match a with
      | ⟨0, _⟩ => rfl
      | ⟨1, _⟩ => rfl
  have ho : tiles_out.idx c i = ix2 ⟨(i 0).val, h0⟩ ⟨2048 * c.val + (i 1).val, wcol_lt c ⟨(i 1).val, h1⟩⟩ :=
    funext fun a => match a with
      | ⟨0, _⟩ => rfl
      | ⟨1, _⟩ => Fin.ext (by show c.val * 2048 + (i 1).val = 2048 * c.val + (i 1).val; omega)
  have hx : ∀ k : Fin 4096, xEnt (xOf m (rowDev i)) ⟨(i 0).val % 1024, Nat.mod_lt _ (by decide)⟩ k = gEnt X ⟨(i 0).val, h0⟩ k := fun k => by
    rw [hX]
    show (show Cert.ReferenceIdeal.S4096x4096.Idx → EReal from X) _ = (show Cert.ReferenceIdeal.S4096x4096.Idx → EReal from X) _
    congr 1
    exact funext fun a => match a with
      | ⟨0, _⟩ => Fin.ext (by show (i 0).val / 1024 * 1024 + (i 0).val % 1024 = (i 0).val; omega)
      | ⟨1, _⟩ => rfl
  rw [Layout.block_apply, ho, refOut_apply]
  show rowsFrom m c (rowDev i) (rowIdx i) = _
  rw [hr, rowsFrom_apply m (fun s c => (hW s).trans (hW c).symm), blk_apply]
  have hg := gate_eq _ (pre_apply _ _ ⟨(i 0).val % 1024, Nat.mod_lt _ (by decide)⟩
    ⟨2048 * c.val + (i 1).val, wcol_lt c ⟨(i 1).val, h1⟩⟩ (hp (rowDev i)))
  rw [hW (rowDev i)] at hg
  rw [hW c]
  exact hg.trans (congrArg gate (Finset.sum_congr rfl fun k _ => by rw [hx k]))

end Cert.KernelIdeal.Hand

end
-- ==== Proof.lean ====
/-
The claims of this directory, put together: the three frames, and the equality of the kernel's results with the
reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_within_clip_KernelIdeal
public import proofs.«01_k».proof.Proof.Gen.Pre_within_clip_ReferenceIdeal
public import proofs.«01_k».proof.Proof.Match
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel's frame, at the float words: of the run that `run_main` proves for every float interpretation. -/
theorem frame_kernel : Cert.quiescent_Kernel := fun m ρ _ =>
  (θ_run Cert.KernelIdeal.defs _ _).mono (fun _ h => ⟨fun c => ⟨(h.1 c).2.1, (h.1 c).2.2⟩, h.2⟩)
    (Cert.KernelIdeal.Hand.run_main (F := Bits) m ρ)

/-- The kernel's frame, at the extended reals. -/
theorem frame_ideal : Cert.quiescent_KernelIdeal := fun m ρ _ =>
  (θ_run Cert.KernelIdeal.defs _ _).mono (fun _ h => ⟨fun c => ⟨(h.1 c).2.1, (h.1 c).2.2⟩, h.2⟩)
    (Cert.KernelIdeal.Hand.run_main (F := Ideal) m ρ)

/-- The reference's frame: a line of host operations, with no semaphore declared. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The value claim: device `c` ends with its block of columns of what the reference ends with. -/
theorem algebraic : Cert.algebraic_KernelIdeal_ReferenceIdeal_pre_within_clip_KernelIdeal
    (hPre_within_clip_KernelIdeal := Cert.Pre_within_clip_KernelIdeal.Gen.facts) := by
  intro m ρ m' ρ' hp hagree
  refine ⟨_, ?_, (θ_run Cert.ReferenceIdeal.defs _ _).mono (fun _ h => h 0) (Cert.ReferenceIdeal.Value.run (F := Ideal) m' ρ')⟩
  exact (θ_run Cert.KernelIdeal.defs _ _).mono
    (fun _ h c => ⟨(h.1 c).1.trans (Cert.KernelIdeal.Hand.outAt_eq m _ _ hp (fun c => (hagree c).1) (fun c => (hagree c).2) c),
      (h.1 c).2.1, (h.1 c).2.2⟩)
    (Cert.KernelIdeal.Hand.run_main (F := Ideal) m ρ)

theorem claim : Cert.Claim := ⟨Cert.Kernel.Gen.facts, Cert.KernelIdeal.Gen.facts, Cert.ReferenceIdeal.Gen.facts,
  Cert.Pre_within_clip_KernelIdeal.Gen.facts, Cert.Pre_within_clip_ReferenceIdeal.Gen.facts,
  frame_kernel, frame_ideal, fun m ρ _ => frame_ideal m ρ trivial,
  frame_reference, fun m ρ _ => frame_reference m ρ trivial, trivial, algebraic⟩

end Cert.Proof

end
